-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x256x1024 : Shape := ⟨3, ![1, 256, 1024]⟩
abbrev S1024x1024 : Shape := ⟨2, ![1024, 1024]⟩
abbrev S_ : Shape := ⟨0, ![]⟩

class Facts : Prop where
  bcast_S_S1x256x1024 : S_.BroadcastsInDim S1x256x1024 (![] : Fin 0 → Fin S1x256x1024.rank)
  bcast_S_S1024x1024 : S_.BroadcastsInDim S1024x1024 (![] : Fin 0 → Fin S1024x1024.rank)

variable [Facts]

def fn {F : FTy → Type} [FloatOps F] (main_arg0 : FVec F S1x256x1024 .f32) (main_arg1 : FVec F S1024x1024 .f32) (main_arg2 : FVec F S1024x1024 .f32) (main_arg3 : FVec F S1024x1024 .f32) (main_arg4 : FVec F S1024x1024 .f32) : IVec S1x256x1024 1 × IVec S1024x1024 1 × IVec S1024x1024 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1024x1024 .f32 := Host.absf main_arg3
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  (main_v2, main_v5, main_v8)
-- ==== Pre_finite_ReferenceIdeal.lean ====
abbrev S1x256x1024 : Shape := ⟨3, ![1, 256, 1024]⟩
abbrev S1024x8192 : Shape := ⟨2, ![1024, 8192]⟩
abbrev S8192x1024 : Shape := ⟨2, ![8192, 1024]⟩
abbrev S_ : Shape := ⟨0, ![]⟩

class Facts : Prop where
  bcast_S_S1x256x1024 : S_.BroadcastsInDim S1x256x1024 (![] : Fin 0 → Fin S1x256x1024.rank)
  bcast_S_S1024x8192 : S_.BroadcastsInDim S1024x8192 (![] : Fin 0 → Fin S1024x8192.rank)

variable [Facts]

def fn {F : FTy → Type} [FloatOps F] (main_arg0 : FVec F S1x256x1024 .f32) (main_arg1 : FVec F S1024x8192 .f32) (main_arg2 : FVec F S8192x1024 .f32) (main_arg3 : FVec F S1024x8192 .f32) (main_arg4 : FVec F S1024x8192 .f32) : IVec S1x256x1024 1 × IVec S1024x8192 1 × IVec S1024x8192 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  let main_v6 : FVec F S1024x8192 .f32 := Host.absf main_arg3
  let main_cst_1 : FVec F S_ .f32 := constant S_ .f32 0x7F800000#32
  let main_v7 : FVec F S1024x8192 .f32 := broadcastInDim S1024x8192 ![] bcast_S_S1024x8192 main_cst_1
  let main_v8 : IVec S1024x8192 1 := cmpf .olt main_v6 main_v7
  (main_v2, main_v5, main_v8)
-- ==== Kernel.lean ====
abbrev S1x256x1024 : Shape := ⟨3, ![1, 256, 1024]⟩
abbrev S1024x1024 : Shape := ⟨2, ![1024, 1024]⟩
abbrev S256x1024 : Shape := ⟨2, ![256, 1024]⟩
abbrev S18 : Shape := ⟨1, ![18]⟩
abbrev S_ : Shape := ⟨0, ![]⟩
abbrev S128x128 : Shape := ⟨2, ![128, 128]⟩
abbrev S256x128 : Shape := ⟨2, ![256, 128]⟩
abbrev S128x256 : Shape := ⟨2, ![128, 256]⟩
abbrev S128 : Shape := ⟨1, ![128]⟩
abbrev S128x1 : Shape := ⟨2, ![128, 1]⟩
abbrev S128x1024 : Shape := ⟨2, ![128, 1024]⟩
abbrev S1 : Shape := ⟨1, ![1]⟩
abbrev S128x384 : Shape := ⟨2, ![128, 384]⟩
abbrev S64x384 : Shape := ⟨2, ![64, 384]⟩
abbrev S64x256 : Shape := ⟨2, ![64, 256]⟩
abbrev S32x384 : Shape := ⟨2, ![32, 384]⟩
abbrev S32x256 : Shape := ⟨2, ![32, 256]⟩

abbrev nBuf : Space → Nat
  | .hbm => 6
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1x256x1024, .f32⟩
  | .local _ .vmem, ⟨6, _⟩ => ⟨S256x1024, .bf16⟩
  | .local _ .vmem, ⟨7, _⟩ => ⟨S256x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v11 : BitVec 32 := Scalar.xori v2 c1_i32_4
  let c1_i32_6 : BitVec 32 := 1#32
  let v12 : BitVec 32 := Scalar.muli v11 c1_i32_6
  let v13 : BitVec 32 := Scalar.addi c0_i32 v12
  v13.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v14 : BitVec 32 := Scalar.xori v2 c3_i32
  let c1_i32_8 : BitVec 32 := 1#32
  let v15 : BitVec 32 := Scalar.muli v14 c1_i32_8
  let v16 : BitVec 32 := Scalar.addi c0_i32_9 v15
  v16.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v17 : BitVec 32 := Scalar.xori v2 c4_i32
  let c1_i32_11 : BitVec 32 := 1#32
  let v18 : BitVec 32 := Scalar.muli v17 c1_i32_11
  let v19 : BitVec 32 := Scalar.addi c0_i32_12 v18
  v19.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_92 : BitVec 32 := 0#32
  let v214 : BitVec 1 := Scalar.cmpi .eq v8 c0_i32_92
  let v215 : BitVec 32 := Scalar.extui v214
  let c0_i32_93 : BitVec 32 := 0#32
  let v216 : BitVec 1 := Scalar.cmpi .ne v215 c0_i32_93
  v216

def k0_off1 (d0 : Dev nD) : Fin 2 → Nat :=
  let c1_i32_14 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v25 : BitVec 32 := Scalar.subi c1_i32_14 v8
  let c128_i32_15 : BitVec 32 := 128#32
  let v26 : BitVec 32 := Scalar.muli v25 c128_i32_15
  let c0_i32_524 : BitVec 32 := 0#32
  ![v26.toNat, 0]
def k0_dev4 (d0 : Dev nD) : Nat :=
  let c0_i32_521 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_517 : BitVec 32 := 1#32
  let v786 : BitVec 32 := Scalar.xori v2 c1_i32_517
  let c1_i32_520 : BitVec 32 := 1#32
  let v787 : BitVec 32 := Scalar.muli v786 c1_i32_520
  let v788 : BitVec 32 := Scalar.addi c0_i32_521 v787
  v788.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_94 : BitVec 32 := 0#32
  let v217 : BitVec 1 := Scalar.cmpi .eq v5 c0_i32_94
  let v218 : BitVec 32 := Scalar.extui v217
  let c0_i32_95 : BitVec 32 := 0#32
  let v219 : BitVec 1 := Scalar.cmpi .ne v218 c0_i32_95
  v219

def k0_off2 (d0 : Dev nD) : Fin 2 → Nat :=
  let c1_i32_23 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v38 : BitVec 32 := Scalar.subi c1_i32_23 v5
  let c128_i32_24 : BitVec 32 := 128#32
  let v39 : BitVec 32 := Scalar.muli v38 c128_i32_24
  let c384_i32_524 : BitVec 32 := 384#32
  ![v39.toNat, 384]
def k0_dev5 (d0 : Dev nD) : Nat :=
  let c0_i32_521 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_517 : BitVec 32 := 3#32
  let v786 : BitVec 32 := Scalar.xori v2 c3_i32_517
  let c1_i32_520 : BitVec 32 := 1#32
  let v787 : BitVec 32 := Scalar.muli v786 c1_i32_520
  let v788 : BitVec 32 := Scalar.addi c0_i32_521 v787
  v788.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_96 : BitVec 32 := 0#32
  let v220 : BitVec 1 := Scalar.cmpi .eq v7 c0_i32_96
  let v221 : BitVec 32 := Scalar.extui v220
  let c0_i32_97 : BitVec 32 := 0#32
  let v222 : BitVec 1 := Scalar.cmpi .ne v221 c0_i32_97
  v222

def k0_off3 (d0 : Dev nD) : Fin 2 → Nat :=
  let c1_i32_32 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v51 : BitVec 32 := Scalar.subi c1_i32_32 v7
  let c128_i32_33 : BitVec 32 := 128#32
  let v52 : BitVec 32 := Scalar.muli v51 c128_i32_33
  let c768_i32_524 : BitVec 32 := 768#32
  ![v52.toNat, 768]
def k0_dev6 (d0 : Dev nD) : Nat :=
  let c0_i32_521 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_517 : BitVec 32 := 4#32
  let v786 : BitVec 32 := Scalar.xori v2 c4_i32_517
  let c1_i32_520 : BitVec 32 := 1#32
  let v787 : BitVec 32 := Scalar.muli v786 c1_i32_520
  let v788 : BitVec 32 := Scalar.addi c0_i32_521 v787
  v788.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1_i32_143 : BitVec 32 := 1#32
  let v367 : BitVec 1 := Scalar.cmpi .eq v8 c1_i32_143
  let v368 : BitVec 32 := Scalar.extui v367
  let c0_i32_144 : BitVec 32 := 0#32
  let v369 : BitVec 1 := Scalar.cmpi .ne v368 c0_i32_144
  v369

def k0_off4 (d0 : Dev nD) : Fin 2 → Nat :=
  let c1_i32_14 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v25 : BitVec 32 := Scalar.subi c1_i32_14 v8
  let c128_i32_15 : BitVec 32 := 128#32
  let v26 : BitVec 32 := Scalar.muli v25 c128_i32_15
  let c0_i32_524 : BitVec 32 := 0#32
  ![v26.toNat, 0]
def k0_dev7 (d0 : Dev nD) : Nat :=
  let c0_i32_521 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_517 : BitVec 32 := 1#32
  let v786 : BitVec 32 := Scalar.xori v2 c1_i32_517
  let c1_i32_520 : BitVec 32 := 1#32
  let v787 : BitVec 32 := Scalar.muli v786 c1_i32_520
  let v788 : BitVec 32 := Scalar.addi c0_i32_521 v787
  v788.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c1_i32_145 : BitVec 32 := 1#32
  let v370 : BitVec 1 := Scalar.cmpi .eq v5 c1_i32_145
  let v371 : BitVec 32 := Scalar.extui v370
  let c0_i32_146 : BitVec 32 := 0#32
  let v372 : BitVec 1 := Scalar.cmpi .ne v371 c0_i32_146
  v372

def k0_off5 (d0 : Dev nD) : Fin 2 → Nat :=
  let c1_i32_23 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v38 : BitVec 32 := Scalar.subi c1_i32_23 v5
  let c128_i32_24 : BitVec 32 := 128#32
  let v39 : BitVec 32 := Scalar.muli v38 c128_i32_24
  let c384_i32_524 : BitVec 32 := 384#32
  ![v39.toNat, 384]
def k0_dev8 (d0 : Dev nD) : Nat :=
  let c0_i32_521 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_517 : BitVec 32 := 3#32
  let v786 : BitVec 32 := Scalar.xori v2 c3_i32_517
  let c1_i32_520 : BitVec 32 := 1#32
  let v787 : BitVec 32 := Scalar.muli v786 c1_i32_520
  let v788 : BitVec 32 := Scalar.addi c0_i32_521 v787
  v788.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c1_i32_147 : BitVec 32 := 1#32
  let v373 : BitVec 1 := Scalar.cmpi .eq v7 c1_i32_147
  let v374 : BitVec 32 := Scalar.extui v373
  let c0_i32_148 : BitVec 32 := 0#32
  let v375 : BitVec 1 := Scalar.cmpi .ne v374 c0_i32_148
  v375

def k0_off6 (d0 : Dev nD) : Fin 2 → Nat :=
  let c1_i32_32 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v51 : BitVec 32 := Scalar.subi c1_i32_32 v7
  let c128_i32_33 : BitVec 32 := 128#32
  let v52 : BitVec 32 := Scalar.muli v51 c128_i32_33
  let c768_i32_524 : BitVec 32 := 768#32
  ![v52.toNat, 768]
def k0_dev9 (d0 : Dev nD) : Nat :=
  let c0_i32_521 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_517 : BitVec 32 := 4#32
  let v786 : BitVec 32 := Scalar.xori v2 c4_i32_517
  let c1_i32_520 : BitVec 32 := 1#32
  let v787 : BitVec 32 := Scalar.muli v786 c1_i32_520
  let v788 : BitVec 32 := Scalar.addi c0_i32_521 v787
  v788.toNat
def k0_off7 (d0 : Dev nD) : Fin 2 → Nat :=
  let c1_i32_14 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v25 : BitVec 32 := Scalar.subi c1_i32_14 v8
  let c128_i32_15 : BitVec 32 := 128#32
  let v26 : BitVec 32 := Scalar.muli v25 c128_i32_15
  let c0_i32_153 : BitVec 32 := 0#32
  ![v26.toNat, 0]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c128_i32 : BitVec 32 := 128#32
  let v20 : BitVec 32 := Scalar.muli v8 c128_i32
  let v388 : Index := Scalar.indexCast v20
  let c0_164 : Index := 0#32
  ![v388.toNat, 0]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c128_i32 : BitVec 32 := 128#32
  let v20 : BitVec 32 := Scalar.muli v8 c128_i32
  let c1_i32_16 : BitVec 32 := 1#32
  let v27 : BitVec 32 := Scalar.subi c1_i32_16 v5
  let c64_i32_17 : BitVec 32 := 64#32
  let v28 : BitVec 32 := Scalar.muli v27 c64_i32_17
  let v29 : BitVec 32 := Scalar.addi v20 v28
  let c0_i32_174 : BitVec 32 := 0#32
  ![v29.toNat, 0]
def k0_dev10 (d0 : Dev nD) : Nat :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_163 : BitVec 32 := 3#32
  let v387 : BitVec 32 := Scalar.xori v2 c3_i32_163
  let c1_i32_170 : BitVec 32 := 1#32
  let v396 : BitVec 32 := Scalar.muli v387 c1_i32_170
  let v397 : BitVec 32 := Scalar.addi c0_i32_171 v396
  v397.toNat
def k0_off10 (d0 : Dev nD) : Fin 2 → Nat :=
  let c1_i32_23 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v38 : BitVec 32 := Scalar.subi c1_i32_23 v5
  let c128_i32_24 : BitVec 32 := 128#32
  let v39 : BitVec 32 := Scalar.muli v38 c128_i32_24
  let c384_i32 : BitVec 32 := 384#32
  ![v39.toNat, 384]
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c128_i32_20 : BitVec 32 := 128#32
  let v33 : BitVec 32 := Scalar.muli v5 c128_i32_20
  let v416 : Index := Scalar.indexCast v33
  let c384 : Index := 384#32
  ![v416.toNat, 384]
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c128_i32_20 : BitVec 32 := 128#32
  let v33 : BitVec 32 := Scalar.muli v5 c128_i32_20
  let c1_i32_25 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v40 : BitVec 32 := Scalar.subi c1_i32_25 v7
  let c64_i32_26 : BitVec 32 := 64#32
  let v41 : BitVec 32 := Scalar.muli v40 c64_i32_26
  let v42 : BitVec 32 := Scalar.addi v33 v41
  let c384_i32_196 : BitVec 32 := 384#32
  ![v42.toNat, 384]
def k0_dev11 (d0 : Dev nD) : Nat :=
  let c0_i32_193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_187 : BitVec 32 := 4#32
  let v415 : BitVec 32 := Scalar.xori v2 c4_i32_187
  let c1_i32_192 : BitVec 32 := 1#32
  let v424 : BitVec 32 := Scalar.muli v415 c1_i32_192
  let v425 : BitVec 32 := Scalar.addi c0_i32_193 v424
  v425.toNat
def k0_off13 (d0 : Dev nD) : Fin 2 → Nat :=
  let c1_i32_32 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v51 : BitVec 32 := Scalar.subi c1_i32_32 v7
  let c128_i32_33 : BitVec 32 := 128#32
  let v52 : BitVec 32 := Scalar.muli v51 c128_i32_33
  let c768_i32 : BitVec 32 := 768#32
  ![v52.toNat, 768]
def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c128_i32_29 : BitVec 32 := 128#32
  let v46 : BitVec 32 := Scalar.muli v7 c128_i32_29
  let v444 : Index := Scalar.indexCast v46
  let c768 : Index := 768#32
  ![v444.toNat, 768]
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c128_i32_29 : BitVec 32 := 128#32
  let v46 : BitVec 32 := Scalar.muli v7 c128_i32_29
  let c1_i32_34 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v9 : BitVec 32 := Scalar.xori v3 v5
  let v53 : BitVec 32 := Scalar.subi c1_i32_34 v9
  let c64_i32_35 : BitVec 32 := 64#32
  let v54 : BitVec 32 := Scalar.muli v53 c64_i32_35
  let v55 : BitVec 32 := Scalar.addi v46 v54
  let c768_i32_218 : BitVec 32 := 768#32
  ![v55.toNat, 768]
def k0_dev12 (d0 : Dev nD) : Nat :=
  let c0_i32_215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_209 : BitVec 32 := 1#32
  let v443 : BitVec 32 := Scalar.xori v2 c1_i32_209
  let c1_i32_214 : BitVec 32 := 1#32
  let v452 : BitVec 32 := Scalar.muli v443 c1_i32_214
  let v453 : BitVec 32 := Scalar.addi c0_i32_215 v452
  v453.toNat
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c128_i32 : BitVec 32 := 128#32
  let v20 : BitVec 32 := Scalar.muli v8 c128_i32
  let c64_i32 : BitVec 32 := 64#32
  let v21 : BitVec 32 := Scalar.muli v5 c64_i32
  let v22 : BitVec 32 := Scalar.addi v20 v21
  let v472 : Index := Scalar.indexCast v22
  let c0_234 : Index := 0#32
  ![v472.toNat, 0]
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c128_i32 : BitVec 32 := 128#32
  let v20 : BitVec 32 := Scalar.muli v8 c128_i32
  let c64_i32 : BitVec 32 := 64#32
  let v21 : BitVec 32 := Scalar.muli v5 c64_i32
  let v22 : BitVec 32 := Scalar.addi v20 v21
  let c1_i32_18 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v30 : BitVec 32 := Scalar.subi c1_i32_18 v7
  let c32_i32_19 : BitVec 32 := 32#32
  let v31 : BitVec 32 := Scalar.muli v30 c32_i32_19
  let v32 : BitVec 32 := Scalar.addi v22 v31
  let c0_i32_243 : BitVec 32 := 0#32
  ![v32.toNat, 0]
def k0_dev13 (d0 : Dev nD) : Nat :=
  let c0_i32_241 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_233 : BitVec 32 := 4#32
  let v471 : BitVec 32 := Scalar.xori v2 c4_i32_233
  let c1_i32_240 : BitVec 32 := 1#32
  let v480 : BitVec 32 := Scalar.muli v471 c1_i32_240
  let v481 : BitVec 32 := Scalar.addi c0_i32_241 v480
  v481.toNat
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c128_i32_20 : BitVec 32 := 128#32
  let v33 : BitVec 32 := Scalar.muli v5 c128_i32_20
  let c2_i32 : BitVec 32 := 2#32
  let v6 : BitVec 32 := Scalar.shrsi v2 c2_i32
  let c1_i32_3 : BitVec 32 := 1#32
  let v7 : BitVec 32 := Scalar.andi v6 c1_i32_3
  let c64_i32_21 : BitVec 32 := 64#32
  let v34 : BitVec 32 := Scalar.muli v7 c64_i32_21
  let v35 : BitVec 32 := Scalar.addi v33 v34
  let v500 : Index := Scalar.indexCast v35
  let c384_259 : Index := 384#32
  ![v500.toNat, 384]
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c128_i32_20 : BitVec 32 := 128#32
  let v33 : BitVec 32 := Scalar.muli v5 c128_i32_20
  let c2_i32 : BitVec 32 := 2#32
  let v6 : BitVec 32 := Scalar.shrsi v2 c2_i32
  let c1_i32_3 : BitVec 32 := 1#32
  let v7 : BitVec 32 := Scalar.andi v6 c1_i32_3
  let c64_i32_21 : BitVec 32 := 64#32
  let v34 : BitVec 32 := Scalar.muli v7 c64_i32_21
  let v35 : BitVec 32 := Scalar.addi v33 v34
  let c1_i32_27 : BitVec 32 := 1#32
  let c1_i32_0 : BitVec 32 := 1#32
  let v3 : BitVec 32 := Scalar.andi v2 c1_i32_0
  let v43 : BitVec 32 := Scalar.subi c1_i32_27 v3
  let c32_i32_28 : BitVec 32 := 32#32
  let v44 : BitVec 32 := Scalar.muli v43 c32_i32_28
  let v45 : BitVec 32 := Scalar.addi v35 v44
  let c384_i32_269 : BitVec 32 := 384#32
  ![v45.toNat, 384]
def k0_dev14 (d0 : Dev nD) : Nat :=
  let c0_i32_266 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_258 : BitVec 32 := 1#32
  let v499 : BitVec 32 := Scalar.xori v2 c1_i32_258
  let c1_i32_265 : BitVec 32 := 1#32
  let v508 : BitVec 32 := Scalar.muli v499 c1_i32_265
  let v509 : BitVec 32 := Scalar.addi c0_i32_266 v508
  v509.toNat
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c128_i32_29 : BitVec 32 := 128#32
  let v46 : BitVec 32 := Scalar.muli v7 c128_i32_29
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v9 : BitVec 32 := Scalar.xori v3 v5
  let c64_i32_30 : BitVec 32 := 64#32
  let v47 : BitVec 32 := Scalar.muli v9 c64_i32_30
  let v48 : BitVec 32 := Scalar.addi v46 v47
  let v528 : Index := Scalar.indexCast v48
  let c768_285 : Index := 768#32
  ![v528.toNat, 768]
def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c128_i32_29 : BitVec 32 := 128#32
  let v46 : BitVec 32 := Scalar.muli v7 c128_i32_29
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v9 : BitVec 32 := Scalar.xori v3 v5
  let c64_i32_30 : BitVec 32 := 64#32
  let v47 : BitVec 32 := Scalar.muli v9 c64_i32_30
  let v48 : BitVec 32 := Scalar.addi v46 v47
  let c1_i32_36 : BitVec 32 := 1#32
  let v56 : BitVec 32 := Scalar.subi c1_i32_36 v5
  let c32_i32_37 : BitVec 32 := 32#32
  let v57 : BitVec 32 := Scalar.muli v56 c32_i32_37
  let v58 : BitVec 32 := Scalar.addi v48 v57
  let c768_i32_294 : BitVec 32 := 768#32
  ![v58.toNat, 768]
def k0_dev15 (d0 : Dev nD) : Nat :=
  let c0_i32_291 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_284 : BitVec 32 := 3#32
  let v527 : BitVec 32 := Scalar.xori v2 c3_i32_284
  let c1_i32_290 : BitVec 32 := 1#32
  let v536 : BitVec 32 := Scalar.muli v527 c1_i32_290
  let v537 : BitVec 32 := Scalar.addi c0_i32_291 v536
  v537.toNat
def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c128_i32 : BitVec 32 := 128#32
  let v20 : BitVec 32 := Scalar.muli v8 c128_i32
  let c64_i32 : BitVec 32 := 64#32
  let v21 : BitVec 32 := Scalar.muli v5 c64_i32
  let v22 : BitVec 32 := Scalar.addi v20 v21
  let c2_i32 : BitVec 32 := 2#32
  let v6 : BitVec 32 := Scalar.shrsi v2 c2_i32
  let c1_i32_3 : BitVec 32 := 1#32
  let v7 : BitVec 32 := Scalar.andi v6 c1_i32_3
  let c32_i32 : BitVec 32 := 32#32
  let v23 : BitVec 32 := Scalar.muli v7 c32_i32
  let v24 : BitVec 32 := Scalar.addi v22 v23
  let v556 : Index := Scalar.indexCast v24
  let c0_310 : Index := 0#32
  ![v556.toNat, 0]
def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c128_i32 : BitVec 32 := 128#32
  let v20 : BitVec 32 := Scalar.muli v8 c128_i32
  let c64_i32 : BitVec 32 := 64#32
  let v21 : BitVec 32 := Scalar.muli v5 c64_i32
  let v22 : BitVec 32 := Scalar.addi v20 v21
  let c2_i32 : BitVec 32 := 2#32
  let v6 : BitVec 32 := Scalar.shrsi v2 c2_i32
  let c1_i32_3 : BitVec 32 := 1#32
  let v7 : BitVec 32 := Scalar.andi v6 c1_i32_3
  let c32_i32 : BitVec 32 := 32#32
  let v23 : BitVec 32 := Scalar.muli v7 c32_i32
  let v24 : BitVec 32 := Scalar.addi v22 v23
  let c0_i32_317 : BitVec 32 := 0#32
  ![v24.toNat, 0]
def k0_dev16 (d0 : Dev nD) : Nat :=
  let c0_i32_316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_309 : BitVec 32 := 4#32
  let v555 : BitVec 32 := Scalar.xori v2 c4_i32_309
  let c1_i32_315 : BitVec 32 := 1#32
  let v564 : BitVec 32 := Scalar.muli v555 c1_i32_315
  let v565 : BitVec 32 := Scalar.addi c0_i32_316 v564
  v565.toNat
def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c128_i32_20 : BitVec 32 := 128#32
  let v33 : BitVec 32 := Scalar.muli v5 c128_i32_20
  let c2_i32 : BitVec 32 := 2#32
  let v6 : BitVec 32 := Scalar.shrsi v2 c2_i32
  let c1_i32_3 : BitVec 32 := 1#32
  let v7 : BitVec 32 := Scalar.andi v6 c1_i32_3
  let c64_i32_21 : BitVec 32 := 64#32
  let v34 : BitVec 32 := Scalar.muli v7 c64_i32_21
  let v35 : BitVec 32 := Scalar.addi v33 v34
  let c1_i32_0 : BitVec 32 := 1#32
  let v3 : BitVec 32 := Scalar.andi v2 c1_i32_0
  let c32_i32_22 : BitVec 32 := 32#32
  let v36 : BitVec 32 := Scalar.muli v3 c32_i32_22
  let v37 : BitVec 32 := Scalar.addi v35 v36
  let v584 : Index := Scalar.indexCast v37
  let c384_334 : Index := 384#32
  ![v584.toNat, 384]
def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c128_i32_20 : BitVec 32 := 128#32
  let v33 : BitVec 32 := Scalar.muli v5 c128_i32_20
  let c2_i32 : BitVec 32 := 2#32
  let v6 : BitVec 32 := Scalar.shrsi v2 c2_i32
  let c1_i32_3 : BitVec 32 := 1#32
  let v7 : BitVec 32 := Scalar.andi v6 c1_i32_3
  let c64_i32_21 : BitVec 32 := 64#32
  let v34 : BitVec 32 := Scalar.muli v7 c64_i32_21
  let v35 : BitVec 32 := Scalar.addi v33 v34
  let c1_i32_0 : BitVec 32 := 1#32
  let v3 : BitVec 32 := Scalar.andi v2 c1_i32_0
  let c32_i32_22 : BitVec 32 := 32#32
  let v36 : BitVec 32 := Scalar.muli v3 c32_i32_22
  let v37 : BitVec 32 := Scalar.addi v35 v36
  let c384_i32_341 : BitVec 32 := 384#32
  ![v37.toNat, 384]
def k0_dev17 (d0 : Dev nD) : Nat :=
  let c0_i32_340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_333 : BitVec 32 := 1#32
  let v583 : BitVec 32 := Scalar.xori v2 c1_i32_333
  let c1_i32_339 : BitVec 32 := 1#32
  let v592 : BitVec 32 := Scalar.muli v583 c1_i32_339
  let v593 : BitVec 32 := Scalar.addi c0_i32_340 v592
  v593.toNat
def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c128_i32_29 : BitVec 32 := 128#32
  let v46 : BitVec 32 := Scalar.muli v7 c128_i32_29
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v9 : BitVec 32 := Scalar.xori v3 v5
  let c64_i32_30 : BitVec 32 := 64#32
  let v47 : BitVec 32 := Scalar.muli v9 c64_i32_30
  let v48 : BitVec 32 := Scalar.addi v46 v47
  let c32_i32_31 : BitVec 32 := 32#32
  let v49 : BitVec 32 := Scalar.muli v5 c32_i32_31
  let v50 : BitVec 32 := Scalar.addi v48 v49
  let v612 : Index := Scalar.indexCast v50
  let c768_358 : Index := 768#32
  ![v612.toNat, 768]
def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c128_i32_29 : BitVec 32 := 128#32
  let v46 : BitVec 32 := Scalar.muli v7 c128_i32_29
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v9 : BitVec 32 := Scalar.xori v3 v5
  let c64_i32_30 : BitVec 32 := 64#32
  let v47 : BitVec 32 := Scalar.muli v9 c64_i32_30
  let v48 : BitVec 32 := Scalar.addi v46 v47
  let c32_i32_31 : BitVec 32 := 32#32
  let v49 : BitVec 32 := Scalar.muli v5 c32_i32_31
  let v50 : BitVec 32 := Scalar.addi v48 v49
  let c768_i32_365 : BitVec 32 := 768#32
  ![v50.toNat, 768]
def k0_dev18 (d0 : Dev nD) : Nat :=
  let c0_i32_364 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_357 : BitVec 32 := 3#32
  let v611 : BitVec 32 := Scalar.xori v2 c3_i32_357
  let c1_i32_363 : BitVec 32 := 1#32
  let v620 : BitVec 32 := Scalar.muli v611 c1_i32_363
  let v621 : BitVec 32 := Scalar.addi c0_i32_364 v620
  v621.toNat
def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c128_i32 : BitVec 32 := 128#32
  let v20 : BitVec 32 := Scalar.muli v8 c128_i32
  let c64_i32 : BitVec 32 := 64#32
  let v21 : BitVec 32 := Scalar.muli v5 c64_i32
  let v22 : BitVec 32 := Scalar.addi v20 v21
  let c0_i32_384 : BitVec 32 := 0#32
  ![v22.toNat, 0]
def k0_dev19 (d0 : Dev nD) : Nat :=
  let c0_i32_383 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_379 : BitVec 32 := 3#32
  let v639 : BitVec 32 := Scalar.xori v2 c3_i32_379
  let c1_i32_382 : BitVec 32 := 1#32
  let v640 : BitVec 32 := Scalar.muli v639 c1_i32_382
  let v641 : BitVec 32 := Scalar.addi c0_i32_383 v640
  v641.toNat
def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c128_i32_20 : BitVec 32 := 128#32
  let v33 : BitVec 32 := Scalar.muli v5 c128_i32_20
  let c2_i32 : BitVec 32 := 2#32
  let v6 : BitVec 32 := Scalar.shrsi v2 c2_i32
  let c1_i32_3 : BitVec 32 := 1#32
  let v7 : BitVec 32 := Scalar.andi v6 c1_i32_3
  let c64_i32_21 : BitVec 32 := 64#32
  let v34 : BitVec 32 := Scalar.muli v7 c64_i32_21
  let v35 : BitVec 32 := Scalar.addi v33 v34
  let c384_i32_402 : BitVec 32 := 384#32
  ![v35.toNat, 384]
def k0_dev20 (d0 : Dev nD) : Nat :=
  let c0_i32_401 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_398 : BitVec 32 := 4#32
  let v659 : BitVec 32 := Scalar.xori v2 c4_i32_398
  let c1_i32_400 : BitVec 32 := 1#32
  let v660 : BitVec 32 := Scalar.muli v659 c1_i32_400
  let v661 : BitVec 32 := Scalar.addi c0_i32_401 v660
  v661.toNat
def k0_off30 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c128_i32_29 : BitVec 32 := 128#32
  let v46 : BitVec 32 := Scalar.muli v7 c128_i32_29
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v9 : BitVec 32 := Scalar.xori v3 v5
  let c64_i32_30 : BitVec 32 := 64#32
  let v47 : BitVec 32 := Scalar.muli v9 c64_i32_30
  let v48 : BitVec 32 := Scalar.addi v46 v47
  let c768_i32_420 : BitVec 32 := 768#32
  ![v48.toNat, 768]
def k0_dev21 (d0 : Dev nD) : Nat :=
  let c0_i32_419 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_416 : BitVec 32 := 1#32
  let v679 : BitVec 32 := Scalar.xori v2 c1_i32_416
  let c1_i32_418 : BitVec 32 := 1#32
  let v680 : BitVec 32 := Scalar.muli v679 c1_i32_418
  let v681 : BitVec 32 := Scalar.addi c0_i32_419 v680
  v681.toNat
def k0_off31 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c128_i32 : BitVec 32 := 128#32
  let v20 : BitVec 32 := Scalar.muli v8 c128_i32
  let c0_i32_438 : BitVec 32 := 0#32
  ![v20.toNat, 0]
def k0_dev22 (d0 : Dev nD) : Nat :=
  let c0_i32_437 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_434 : BitVec 32 := 1#32
  let v699 : BitVec 32 := Scalar.xori v2 c1_i32_434
  let c1_i32_436 : BitVec 32 := 1#32
  let v700 : BitVec 32 := Scalar.muli v699 c1_i32_436
  let v701 : BitVec 32 := Scalar.addi c0_i32_437 v700
  v701.toNat
def k0_off32 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c128_i32_20 : BitVec 32 := 128#32
  let v33 : BitVec 32 := Scalar.muli v5 c128_i32_20
  let c384_i32_456 : BitVec 32 := 384#32
  ![v33.toNat, 384]
def k0_dev23 (d0 : Dev nD) : Nat :=
  let c0_i32_455 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_452 : BitVec 32 := 3#32
  let v719 : BitVec 32 := Scalar.xori v2 c3_i32_452
  let c1_i32_454 : BitVec 32 := 1#32
  let v720 : BitVec 32 := Scalar.muli v719 c1_i32_454
  let v721 : BitVec 32 := Scalar.addi c0_i32_455 v720
  v721.toNat
def k0_off33 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c128_i32_29 : BitVec 32 := 128#32
  let v46 : BitVec 32 := Scalar.muli v7 c128_i32_29
  let c768_i32_474 : BitVec 32 := 768#32
  ![v46.toNat, 768]
def k0_dev24 (d0 : Dev nD) : Nat :=
  let c0_i32_473 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_470 : BitVec 32 := 4#32
  let v739 : BitVec 32 := Scalar.xori v2 c4_i32_470
  let c1_i32_472 : BitVec 32 := 1#32
  let v740 : BitVec 32 := Scalar.muli v739 c1_i32_472
  let v741 : BitVec 32 := Scalar.addi c0_i32_473 v740
  v741.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x256x1024 : Shape := ⟨3, ![1, 256, 1024]⟩
abbrev S1024x8192 : Shape := ⟨2, ![1024, 8192]⟩
abbrev S8192x1024 : Shape := ⟨2, ![8192, 1024]⟩
abbrev S1x256x8192 : Shape := ⟨3, ![1, 256, 8192]⟩
abbrev S1x256x64x128 : Shape := ⟨4, ![1, 256, 64, 128]⟩
abbrev S_ : Shape := ⟨0, ![]⟩
abbrev S1x64x256x1 : Shape := ⟨4, ![1, 64, 256, 1]⟩
abbrev S1x64x256x256 : Shape := ⟨4, ![1, 64, 256, 256]⟩
abbrev S1x64x256 : Shape := ⟨3, ![1, 64, 256]⟩
abbrev S1x256x64x1 : Shape := ⟨4, ![1, 256, 64, 1]⟩
abbrev S1x64x128x256 : Shape := ⟨4, ![1, 64, 128, 256]⟩

abbrev nBuf : Space → Nat
  | .hbm => 46
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x8192, .f32⟩
  | .hbm, ⟨2, _⟩ => ⟨S8192x1024, .f32⟩
  | .hbm, ⟨3, _⟩ => ⟨S1024x8192, .f32⟩
  | .hbm, ⟨4, _⟩ => ⟨S1024x8192, .f32⟩
  | .hbm, ⟨5, _⟩ => ⟨S1x256x8192, .f32⟩
  | .hbm, ⟨6, _⟩ => ⟨S1x256x64x128, .f32⟩
  | .hbm, ⟨7, _⟩ => ⟨S1x256x8192, .f32⟩
  | .hbm, ⟨8, _⟩ => ⟨S1x256x64x128, .f32⟩
  | .hbm, ⟨9, _⟩ => ⟨S1x256x8192, .f32⟩
  | .hbm, ⟨10, _⟩ => ⟨S1x256x64x128, .f32⟩
  | .hbm, ⟨11, _⟩ => ⟨S_, .f32⟩
  | .hbm, ⟨12, _⟩ => ⟨S1x256x64x128, .f32⟩
  | .hbm, ⟨13, _⟩ => ⟨S_, .f32⟩
  | .hbm, ⟨14, _⟩ => ⟨S1x64x256x1, .f32⟩
  | .hbm, ⟨15, _⟩ => ⟨S_, .f32⟩
  | .hbm, ⟨16, _⟩ => ⟨S1x64x256x1, .f32⟩
  | .hbm, ⟨17, _⟩ => ⟨S1x64x256x256, .f32⟩
  | .hbm, ⟨18, _⟩ => ⟨S_, .f32⟩
  | .hbm, ⟨19, _⟩ => ⟨S1x64x256x256, .f32⟩
  | .hbm, ⟨20, _⟩ => ⟨S1x64x256x256, .f32⟩
  | .hbm, ⟨21, _⟩ => ⟨S_, .f32⟩
  | .hbm, ⟨22, _⟩ => ⟨S1x64x256, .f32⟩
  | .hbm, ⟨23, _⟩ => ⟨S1x64x256x1, .f32⟩
  | .hbm, ⟨24, _⟩ => ⟨S1x64x256x1, .f32⟩
  | .hbm, ⟨25, _⟩ => ⟨S1x64x256x1, .f32⟩
  | .hbm, ⟨26, _⟩ => ⟨S1x64x256x1, .f32⟩
  | .hbm, ⟨27, _⟩ => ⟨S1x64x256x256, .f32⟩
  | .hbm, ⟨28, _⟩ => ⟨S1x64x256x256, .f32⟩
  | .hbm, ⟨29, _⟩ => ⟨S1x64x256x256, .f32⟩
  | .hbm, ⟨30, _⟩ => ⟨S1x64x256x1, .f32⟩
  | .hbm, ⟨31, _⟩ => ⟨S_, .f32⟩
  | .hbm, ⟨32, _⟩ => ⟨S1x64x256, .f32⟩
  | .hbm, ⟨33, _⟩ => ⟨S1x64x256x1, .f32⟩
  | .hbm, ⟨34, _⟩ => ⟨S1x64x256x1, .f32⟩
  | .hbm, ⟨35, _⟩ => ⟨S1x256x64x1, .f32⟩
  | .hbm, ⟨36, _⟩ => ⟨S1x256x64x128, .f32⟩
  | .hbm, ⟨37, _⟩ => ⟨S1x256x64x128, .f32⟩
  | .hbm, ⟨38, _⟩ => ⟨S1x64x128x256, .f32⟩
  | .hbm, ⟨39, _⟩ => ⟨S1x256x64x128, .f32⟩
  | .hbm, ⟨40, _⟩ => ⟨S1x256x64x128, .f32⟩
  | .hbm, ⟨41, _⟩ => ⟨S1x256x64x1, .f32⟩
  | .hbm, ⟨42, _⟩ => ⟨S1x256x64x128, .f32⟩
  | .hbm, ⟨43, _⟩ => ⟨S1x256x64x128, .f32⟩
  | .hbm, ⟨44, _⟩ => ⟨S1x256x8192, .f32⟩
  | .hbm, ⟨45, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.Geo.lean ====
/-
# The geometry of the butterfly all-reduce

Eight devices are the corners of a cube.  The 1024 columns of the buffer are cut into three *rails* (384, 384 and 256
columns); each rail exchanges over the cube's three directions in its own order.  This module states, over plain
numbers, who is whose partner, which rows a device keeps and sends at every stage, and the index sets of the buffer
that these rows are.
-/
module

public import Idealize.ShloMosaic.Lib.Tactic

@[expose] public section

namespace Cert.Butterfly

open Idealize.ShloMosaic

/-- The partner of device `c` in direction `k`: the device whose number differs by the mask 1, 3 or 4. -/
def peer (k : Fin 3) (c : Fin 8) : Fin 8 := ⟨(c.val ^^^ ![1, 3, 4] k) % 8, Nat.mod_lt _ (by decide)⟩

/-- Being partners is mutual, -/
theorem peer_peer (k : Fin 3) (c : Fin 8) : peer k (peer k c) = c := by revert k c; decide

/-- and no device is its own partner. -/
theorem peer_ne (k : Fin 3) (c : Fin 8) : peer k c ≠ c := by revert k c; decide

/-- The exchange in a direction, as a permutation of the devices. -/
def swap (k : Fin 3) : Fin 8 ≃ Fin 8 := ⟨peer k, peer k, peer_peer k, peer_peer k⟩

/-- The direction rail `r` takes at reduce-scatter stage `s`. -/
def dir (r s : Fin 3) : Fin 3 := r + s

/-- Which half of its rows device `c` keeps on rail `r` at stage `s`: 0 the lower, 1 the upper. -/
def sel (r s : Fin 3) (c : Fin 8) : ℕ :=
  ![![(c.val % 2 + c.val / 2 % 2) % 2, c.val / 2 % 2, c.val / 4],
    ![c.val / 2 % 2, c.val / 4, c.val % 2],
    ![c.val / 4, (c.val % 2 + c.val / 2 % 2) % 2, c.val / 2 % 2]] r s

/-- The number of rows kept (and sent) at stage `s`: 128, 64, 32. -/
def half (s : Fin 3) : ℕ := ![128, 64, 32] s

/-- The first of the rows that device `c` holds on rail `r` before stage `s`. -/
def held (r s : Fin 3) (c : Fin 8) : ℕ :=
  ![0, 128 * sel r 0 c, 128 * sel r 0 c + 64 * sel r 1 c] s

/-- The first of the rows it keeps at stage `s`, -/
def kept (r s : Fin 3) (c : Fin 8) : ℕ := held r s c + half s * sel r s c

/-- and the first of those it sends. -/
def sent (r s : Fin 3) (c : Fin 8) : ℕ := held r s c + half s * (1 - sel r s c)

/-- The partner sends what this device keeps. -/
theorem sent_peer (r s : Fin 3) (c : Fin 8) : sent r s (peer (dir r s) c) = kept r s c := by revert r s c; decide

/-- The partner keeps what this device sends. -/
theorem kept_peer (r s : Fin 3) (c : Fin 8) : kept r s (peer (dir r s) c) = sent r s c := by revert r s c; decide

/-- Kept and sent rows are the two halves of the held ones, in one order or the other. -/
theorem halves (r s : Fin 3) (c : Fin 8) :
    (kept r s c = held r s c ∧ sent r s c = held r s c + half s) ∨ (sent r s c = held r s c ∧ kept r s c = held r s c + half s) := by
  revert r s c; decide

/-- What is held before a stage is what was kept at the one before. -/
theorem held_succ (r : Fin 3) (c : Fin 8) : held r 0 c = 0 ∧ held r 1 c = kept r 0 c ∧ held r 2 c = kept r 1 c := by
  revert r c; decide

/-- The held rows lie in the buffer. -/
theorem held_le (r s : Fin 3) (c : Fin 8) : held r s c + 2 * half s ≤ 256 := by revert r s c; decide

/-- The device that ends the reduce-scatter with row `i` of rail `r`. -/
def owner (r : Fin 3) (i : ℕ) : Fin 8 :=
  ((List.finRange 8).find? fun c => decide (kept r 2 c = 32 * (i / 32))).getD 0

/-- The rows a device keeps last are its own. -/
theorem owner_eq (r : Fin 3) (c : Fin 8) (i : ℕ) (h : kept r 2 c ≤ i) (h' : i < kept r 2 c + 32) : owner r i = c := by
  have hd : 32 * (i / 32) = kept r 2 c := by
    have key : ∀ (r : Fin 3) (c : Fin 8), kept r 2 c % 32 = 0 := by decide
    have := key r c
    omega
  unfold owner; rw [hd]; clear h h' hd; revert r c; decide

/-! ## Columns and index sets -/

/-- The buffers' shape. -/
abbrev SB : Shape := ⟨2, ![256, 1024]⟩

/-- The first column of a rail, -/
def cl (r : Fin 3) : ℕ := ![0, 384, 768] r
/-- and its width. -/
def cw (r : Fin 3) : ℕ := ![384, 384, 256] r

/-- The first row of the receive window of stage `s`. -/
def wrow (s : Fin 3) : ℕ := ![0, 128, 192] s

/-- The rail of a column. -/
def rail (j : ℕ) : Fin 3 := if j < 384 then 0 else if j < 768 then 1 else 2

theorem rail_eq (r : Fin 3) (j : ℕ) (h : cl r ≤ j) (h' : j < cl r + cw r) : rail j = r := by
  unfold rail; fin_cases r <;> simp only [cl, cw] at h h' <;> simp at h h' <;> split_ifs <;> first | rfl | omega

theorem rail_spec (j : ℕ) (hj : j < 1024) : cl (rail j) ≤ j ∧ j < cl (rail j) + cw (rail j) := by
  unfold rail; split_ifs <;> simp [cl, cw] <;> omega

/-- Rows `lo … lo + n` of rail `r`, as a set of indices of the buffer. -/
def reg (r : Fin 3) (lo n : ℕ) : Finset SB.Idx :=
  Finset.univ.filter fun i => (lo ≤ (i 0).val ∧ (i 0).val < lo + n) ∧ cl r ≤ (i 1).val ∧ (i 1).val < cl r + cw r

theorem mem_reg {r : Fin 3} {lo n : ℕ} {i : SB.Idx} :
    i ∈ reg r lo n ↔ (lo ≤ (i 0).val ∧ (i 0).val < lo + n) ∧ cl r ≤ (i 1).val ∧ (i 1).val < cl r + cw r := by
  simp [reg]

/-- Rows `lo … lo + n` at every column. -/
def rows (lo n : ℕ) : Finset SB.Idx := Finset.univ.filter fun i => lo ≤ (i 0).val ∧ (i 0).val < lo + n

theorem mem_rows {lo n : ℕ} {i : SB.Idx} : i ∈ rows lo n ↔ lo ≤ (i 0).val ∧ (i 0).val < lo + n := by simp [rows]

/-- The index set of a unit-stride rectangle that starts at `(lo, cl r)` and is a rail wide. -/
theorem set_eq_reg {off sz : Fin 2 → ℕ} (inb : ∀ a, off a + sz a ≤ SB.size a) {r : Fin 3} {lo n : ℕ}
    (ho : off = ![lo, cl r]) (hs : sz = ![n, cw r]) : (Rect.unit (s := SB) off sz inb).set = reg r lo n := by
  subst ho hs
  ext i
  rw [Rect.mem_set_unit, mem_reg]
  exact Fin.forall_fin_two

/-- The index set of a rectangle of whole rows. -/
theorem set_eq_rows {off sz : Fin 2 → ℕ} (inb : ∀ a, off a + sz a ≤ SB.size a) {lo n : ℕ}
    (ho : off = ![lo, 0]) (hs : sz = ![n, 1024]) : (Rect.unit (s := SB) off sz inb).set = rows lo n := by
  subst ho hs
  ext i
  rw [Rect.mem_set_unit, mem_rows]
  have := (i 1).isLt
  refine Fin.forall_fin_two.trans ⟨fun h => h.1, fun h => ⟨h, ⟨Nat.zero_le _, ?_⟩⟩⟩
  simpa using this

/-- The rows held before a stage are the kept and the sent ones, -/
theorem reg_split (r s : Fin 3) (c : Fin 8) :
    reg r (held r s c) (2 * half s) = reg r (kept r s c) (half s) ∪ reg r (sent r s c) (half s) := by
  ext i
  rw [Finset.mem_union, mem_reg, mem_reg, mem_reg]
  rcases halves r s c with ⟨h, h'⟩ | ⟨h, h'⟩ <;> rw [h, h'] <;> omega

/-- which share no element. -/
theorem reg_disjoint (r s : Fin 3) (c : Fin 8) : Disjoint (reg r (kept r s c) (half s)) (reg r (sent r s c) (half s)) := by
  rw [Finset.disjoint_left]
  intro i hi hj
  rw [mem_reg] at hi hj
  rcases halves r s c with h | h <;> omega

/-- Whole rows are the three rails' rows. -/
theorem rows_eq_biUnion (lo n : ℕ) : rows lo n = Finset.univ.biUnion fun r : Fin 3 => reg r lo n := by
  ext i
  simp only [Finset.mem_biUnion, Finset.mem_univ, true_and, mem_reg, mem_rows]
  exact ⟨fun h => ⟨rail (i 1).val, h, rail_spec _ (i 1).isLt⟩, fun ⟨_, h, _⟩ => h⟩

/-- Different rails share no element. -/
theorem reg_disjoint_rail {r r' : Fin 3} (h : r ≠ r') (lo n lo' n' : ℕ) : Disjoint (reg r lo n) (reg r' lo' n') := by
  rw [Finset.disjoint_left]
  intro i hi hj
  rw [mem_reg] at hi hj
  exact h ((rail_eq r _ hi.2.1 hi.2.2).symm.trans (rail_eq r' _ hj.2.1 hj.2.2))

theorem rows_all : rows 0 256 = Finset.univ := by
  ext i
  have := (i 0).isLt
  simp only [mem_rows, Finset.mem_univ, iff_true]
  exact ⟨Nat.zero_le _, by simpa using this⟩

theorem rows_halves : rows 0 256 = rows 0 128 ∪ rows 128 128 := by
  ext i; rw [Finset.mem_union, mem_rows, mem_rows, mem_rows]; omega

theorem rows_halves_disjoint : Disjoint (rows 0 128) (rows 128 128) := by
  rw [Finset.disjoint_left]; intro i hi hj; rw [mem_rows] at hi hj; omega

/-- The receive window of rail `r`, stage `s`. -/
def win (r s : Fin 3) : Finset SB.Idx := reg r (wrow s) (half s)

/-- Different windows share no element. -/
theorem win_disjoint (p p' : Fin 3 × Fin 3) (h : p ≠ p') : Disjoint (win p.1 p.2) (win p'.1 p'.2) := by
  rw [Finset.disjoint_left]
  intro i hi hj
  unfold win at hi hj
  rw [mem_reg] at hi hj
  refine h (Prod.ext ((rail_eq _ _ hi.2.1 hi.2.2).symm.trans (rail_eq _ _ hj.2.1 hj.2.2)) ?_)
  have key : ∀ s s' : Fin 3, s ≠ s' → wrow s + half s ≤ wrow s' ∨ wrow s' + half s' ≤ wrow s := by decide
  by_contra hne
  rcases key _ _ hne with h1 | h1 <;> omega

/-- The index at row `i`, column `j`. -/
def ix (i : Fin 256) (j : Fin 1024) : SB.Idx := Fin.cons i (Fin.cons j (fun a => a.elim0))

theorem ix_zero (i : Fin 256) (j : Fin 1024) : (ix i j 0).val = i.val := rfl
theorem ix_one (i : Fin 256) (j : Fin 1024) : (ix i j 1).val = j.val := rfl

/-- Two indices of the buffer with the same coordinates are one. -/
theorem idx_ext {i j : SB.Idx} (h0 : (i 0).val = (j 0).val) (h1 : (i 1).val = (j 1).val) : i = j := by
  funext a
  refine Fin.ext ?_
  revert a
  exact Fin.forall_fin_two.mpr ⟨h0, h1⟩

end Cert.Butterfly

end
-- ==== Proof.Facts.lean ====
/-
# The kernel's own offsets and device numbers, in closed form

The kernel computes from its device number where each transfer starts and to whom it goes.  Here each of those
computations is identified with the geometry's `kept`, `sent`, `held` and `peer`, by trying the eight devices.
-/
module

public import proofs.«01_k».proof.Proof.Geo
public import proofs.«01_k».proof.Proof.Gen.KernelIdeal

@[expose] public section

namespace Cert.KernelIdeal.Body

open Cert.KernelIdeal Cert.KernelIdeal.Gen Cert.Butterfly
open Idealize.ShloMosaic

/-- The three entry signals go to the three partners. -/
theorem dev_signal (c : Dev nD) : k0_dev1 c = (peer 0 c).val ∧ k0_dev2 c = (peer 1 c).val ∧ k0_dev3 c = (peer 2 c).val := by
  revert c; decide

/-- The three early starts are taken where the device keeps the lower half, the three late ones elsewhere. -/
theorem conds (c : Dev nD) : ((k0_cond1 c = 1#1 ↔ sel 0 0 c = 0) ∧ (k0_cond2 c = 1#1 ↔ sel 1 0 c = 0) ∧ (k0_cond3 c = 1#1 ↔ sel 2 0 c = 0))
    ∧ (k0_cond4 c = 1#1 ↔ sel 0 0 c = 1) ∧ (k0_cond5 c = 1#1 ↔ sel 1 0 c = 1) ∧ (k0_cond6 c = 1#1 ↔ sel 2 0 c = 1) := by
  revert c; decide

theorem sel_zero_or_one (r s : Fin 3) (c : Dev nD) : sel r s c = 0 ∨ sel r s c = 1 := by revert r s c; decide

/-! First stage of the reduce-scatter: the starts, under their conditions. -/

theorem off1_eq (c : Dev nD) (h : k0_cond1 c = 1#1) : k0_off1 c = ![sent 0 0 c, cl 0] ∧ k0_dev4 c = (peer (dir 0 0) c).val := by revert c; decide
theorem off2_eq (c : Dev nD) (h : k0_cond2 c = 1#1) : k0_off2 c = ![sent 1 0 c, cl 1] ∧ k0_dev5 c = (peer (dir 1 0) c).val := by revert c; decide
theorem off3_eq (c : Dev nD) (h : k0_cond3 c = 1#1) : k0_off3 c = ![sent 2 0 c, cl 2] ∧ k0_dev6 c = (peer (dir 2 0) c).val := by revert c; decide
theorem off4_eq (c : Dev nD) (h : k0_cond4 c = 1#1) : k0_off4 c = ![sent 0 0 c, cl 0] ∧ k0_dev7 c = (peer (dir 0 0) c).val := by revert c; decide
theorem off5_eq (c : Dev nD) (h : k0_cond5 c = 1#1) : k0_off5 c = ![sent 1 0 c, cl 1] ∧ k0_dev8 c = (peer (dir 1 0) c).val := by revert c; decide
theorem off6_eq (c : Dev nD) (h : k0_cond6 c = 1#1) : k0_off6 c = ![sent 2 0 c, cl 2] ∧ k0_dev9 c = (peer (dir 2 0) c).val := by revert c; decide

/-! The additions, on the rows kept. -/

theorem off8_eq (c : Dev nD) : k0_off8 c = ![kept 0 0 c, cl 0] := by revert c; decide
theorem off11_eq (c : Dev nD) : k0_off11 c = ![kept 1 0 c, cl 1] := by revert c; decide
theorem off14_eq (c : Dev nD) : k0_off14 c = ![kept 2 0 c, cl 2] := by revert c; decide
theorem off16_eq (c : Dev nD) : k0_off16 c = ![kept 0 1 c, cl 0] := by revert c; decide
theorem off18_eq (c : Dev nD) : k0_off18 c = ![kept 1 1 c, cl 1] := by revert c; decide
theorem off20_eq (c : Dev nD) : k0_off20 c = ![kept 2 1 c, cl 2] := by revert c; decide
theorem off22_eq (c : Dev nD) : k0_off22 c = ![kept 0 2 c, cl 0] := by revert c; decide
theorem off24_eq (c : Dev nD) : k0_off24 c = ![kept 1 2 c, cl 1] := by revert c; decide
theorem off26_eq (c : Dev nD) : k0_off26 c = ![kept 2 2 c, cl 2] := by revert c; decide

/-! Second and third stage of the reduce-scatter: the starts. -/

theorem off9_eq (c : Dev nD) : k0_off9 c = ![sent 0 1 c, cl 0] ∧ k0_dev10 c = (peer (dir 0 1) c).val := by revert c; decide
theorem off12_eq (c : Dev nD) : k0_off12 c = ![sent 1 1 c, cl 1] ∧ k0_dev11 c = (peer (dir 1 1) c).val := by revert c; decide
theorem off15_eq (c : Dev nD) : k0_off15 c = ![sent 2 1 c, cl 2] ∧ k0_dev12 c = (peer (dir 2 1) c).val := by revert c; decide
theorem off17_eq (c : Dev nD) : k0_off17 c = ![sent 0 2 c, cl 0] ∧ k0_dev13 c = (peer (dir 0 2) c).val := by revert c; decide
theorem off19_eq (c : Dev nD) : k0_off19 c = ![sent 1 2 c, cl 1] ∧ k0_dev14 c = (peer (dir 1 2) c).val := by revert c; decide
theorem off21_eq (c : Dev nD) : k0_off21 c = ![sent 2 2 c, cl 2] ∧ k0_dev15 c = (peer (dir 2 2) c).val := by revert c; decide

/-! The all-gather: the starts, from the rows kept at the stage that is undone. -/

theorem off23_eq (c : Dev nD) : k0_off23 c = ![kept 0 2 c, cl 0] ∧ k0_dev16 c = (peer (dir 0 2) c).val := by revert c; decide
theorem off25_eq (c : Dev nD) : k0_off25 c = ![kept 1 2 c, cl 1] ∧ k0_dev17 c = (peer (dir 1 2) c).val := by revert c; decide
theorem off27_eq (c : Dev nD) : k0_off27 c = ![kept 2 2 c, cl 2] ∧ k0_dev18 c = (peer (dir 2 2) c).val := by revert c; decide
theorem off28_eq (c : Dev nD) : k0_off28 c = ![kept 0 1 c, cl 0] ∧ k0_dev19 c = (peer (dir 0 1) c).val := by revert c; decide
theorem off29_eq (c : Dev nD) : k0_off29 c = ![kept 1 1 c, cl 1] ∧ k0_dev20 c = (peer (dir 1 1) c).val := by revert c; decide
theorem off30_eq (c : Dev nD) : k0_off30 c = ![kept 2 1 c, cl 2] ∧ k0_dev21 c = (peer (dir 2 1) c).val := by revert c; decide
theorem off31_eq (c : Dev nD) : k0_off31 c = ![kept 0 0 c, cl 0] ∧ k0_dev22 c = (peer (dir 0 0) c).val := by revert c; decide
theorem off32_eq (c : Dev nD) : k0_off32 c = ![kept 1 0 c, cl 1] ∧ k0_dev23 c = (peer (dir 1 0) c).val := by revert c; decide
theorem off33_eq (c : Dev nD) : k0_off33 c = ![kept 2 0 c, cl 2] ∧ k0_dev24 c = (peer (dir 2 0) c).val := by revert c; decide

end Cert.KernelIdeal.Body

end
-- ==== Proof.Sched.lean ====
/-
# The cross-device protocol

Semaphores, what lands on each, and the contents handed over.  Device `c` has an entry barrier and, for each rail `r`
and phase `st` (0–2 reduce-scatter, 3–5 all-gather), a send and a receive cell.

* Barrier of `c`: one unit from each partner, which brings the partner's three receive windows that `c` will fill.
* Receive cell, reduce-scatter: the landed rows of the partner's partial sums, and with them the source rows of the
  partner's accumulator, which `c` will overwrite when the all-gather undoes the stage.
* Send cell, reduce-scatter: nothing (the source has gone to the receiver).
* Receive cell, all-gather: the rows of `c`'s own accumulator that had been lent, finished.
* Send cell, all-gather: the source rows back.
-/
module

public import proofs.«01_k».proof.Proof.Facts
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Body

open Cert.KernelIdeal Cert.KernelIdeal.Gen Cert.Butterfly

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Rounds of this protocol have at most three duties. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- The stage that a phase does (0–2) or undoes (3–5). -/
def sg (st : Fin 6) : Fin 3 := ![0, 1, 2, 2, 1, 0] st

/-- The partner of device `c` on rail `r` in phase `st`. -/
abbrev mate (r : Fin 3) (st : Fin 6) (c : Dev nD) : Dev nD := peer (dir r (sg st)) c

theorem mate_mate (r : Fin 3) (st : Fin 6) (c : Dev nD) : mate r st (mate r st c) = c := peer_peer _ _

/-- The exchange of a phase, as a permutation of the devices. -/
def mateEquiv (r : Fin 3) (st : Fin 6) : Dev nD ≃ Dev nD := ⟨mate r st, mate r st, mate_mate r st, mate_mate r st⟩

abbrev barL : SemLoc sig := .reg barrier0
/-- The send semaphore of rail `r`, phase `st`, -/
def sendS (r : Fin 3) (st : Fin 6) : DmaSem sig := (⟨6 + (6 * r.val + st.val), by show 6 + (6 * r.val + st.val) < 42; omega⟩ : Fin 42)
/-- and the receive semaphore. -/
def recvS (r : Fin 3) (st : Fin 6) : DmaSem sig := (⟨24 + (6 * r.val + st.val), by show 24 + (6 * r.val + st.val) < 42; omega⟩ : Fin 42)

abbrev barC (c : Dev nD) : GSem nD τ sig := ((c : Thread nD τ), barL)
abbrev sendC (c : Dev nD) (r : Fin 3) (st : Fin 6) : GSem nD τ sig := ((c : Thread nD τ), .dma (sendS r st))
abbrev recvC (c : Dev nD) (r : Fin 3) (st : Fin 6) : GSem nD τ sig := ((c : Thread nD τ), .dma (recvS r st))

/-- Which transfer a semaphore belongs to, and on which side of it (`true` the receiver's). -/
def dec (q : DmaSem sig) : Option (Bool × Fin 3 × Fin 6) :=
  if q.val < 6 then none
  else some (decide (24 ≤ q.val), ⟨((q.val - 6) % 18 / 6) % 3, Nat.mod_lt _ (by decide)⟩, ⟨(q.val - 6) % 6, Nat.mod_lt _ (by decide)⟩)

theorem dec_send (r : Fin 3) (st : Fin 6) : dec (sendS r st) = some (false, r, st) := by revert r st; decide
theorem dec_recv (r : Fin 3) (st : Fin 6) : dec (recvS r st) = some (true, r, st) := by revert r st; decide

/-! ## Contents -/

/-- The accumulator's and the receive buffer's contents. -/
abbrev Cont (F : FTy → Type) : Type := SB.Idx → F .bf16

variable (P : Dev nD → Cont F)

/-- Device `c`'s partial sum after `n` stages, at every element: what it would hold there if it kept all rows. -/
def part : ℕ → Dev nD → Cont F
  | 0 => P
  | n + 1 => fun c i => FloatOps.addf (part n c i) (part n (peer (dir (rail (i 1).val) (Fin.ofNat 3 n)) c) i)

/-- The finished sum: each row at the device that ends with it. -/
def fin : Cont F := fun i => part P 3 (owner (rail (i 1).val) (i 0).val) i

/-- What lands in the receive window of rail `r`, stage `s`: the partner's partial sums at the rows kept. -/
def landed (r s : Fin 3) (c : Dev nD) : Cont F := fun i =>
  part P s.val (peer (dir r s) c) (ix ⟨((i 0).val - wrow s + kept r s c) % 256, Nat.mod_lt _ (by decide)⟩ (i 1))

/-- A part of device `c`'s accumulator, -/
def accP (c : Dev nD) (I : Finset SB.Idx) (f : Cont F) : sProp 𝕄 := ((c : Thread nD τ).loc cc0_scratch0) ↦[I]{fullShare} f
/-- and of its receive buffer. -/
def winP (c : Dev nD) (I : Finset SB.Idx) (f : Cont F) : sProp 𝕄 := ((c : Thread nD τ).loc cc0_scratch1) ↦[I]{fullShare} f

instance accP_storable (c : Dev nD) (I) (f : Cont F) : BI.Storable (upEmb : UEmb _ 𝕄) (accP c I f) := by unfold accP; infer_instance
instance winP_storable (c : Dev nD) (I) (f : Cont F) : BI.Storable (upEmb : UEmb _ 𝕄) (winP c I f) := by unfold winP; infer_instance

/-- The units a transfer of phase `st` on rail `r` credits. -/
def amt (r : Fin 3) (st : Fin 6) : ℕ :=
  if st.val < 3 then (cc0_scratch1 : Ref sig .tc).dmaCredit ⟨2, ![half (sg st), cw r]⟩ .bf16
  else (cc0_scratch0 : Ref sig .tc).dmaCredit ⟨2, ![half (sg st), cw r]⟩ .bf16

/-- The receive windows of `c` that its partner in direction `k` fills. -/
def windows (c : Dev nD) (k : Fin 3) : sProp 𝕄 :=
  iprop((∃ f, winP c (win (k - 0) 0) f) ∗ (∃ f, winP c (win (k - 1) 1) f) ∗ ∃ f, winP c (win (k - 2) 2) f)

def sendPay (c : Dev nD) (r : Fin 3) (st : Fin 6) : sProp 𝕄 :=
  if st.val < 3 then iprop(emp) else accP c (reg r (kept r (sg st) c) (half (sg st))) (fin P)

def recvPay (c : Dev nD) (r : Fin 3) (st : Fin 6) : sProp 𝕄 :=
  if st.val < 3 then iprop(winP c (win r (sg st)) (landed P r (sg st) c) ∗ ∃ f, accP (mate r st c) (reg r (kept r (sg st) c) (half (sg st))) f)
  else accP c (reg r (sent r (sg st) c) (half (sg st))) (fin P)

instance windows_storable (c : Dev nD) (k : Fin 3) : BI.Storable (upEmb : UEmb _ 𝕄) (windows (F := F) c k) := by unfold windows; infer_instance
instance sendPay_storable (c : Dev nD) (r st) : BI.Storable (upEmb : UEmb _ 𝕄) (sendPay P c r st) := by unfold sendPay; split <;> infer_instance
instance recvPay_storable (c : Dev nD) (r st) : BI.Storable (upEmb : UEmb _ 𝕄) (recvPay P c r st) := by unfold recvPay; split <;> infer_instance

/-! ## The schedule -/

def dutiesOf : SemLoc sig → Finset (Fin 3)
  | .reg _ => Finset.univ
  | .dma q => if (dec q).isSome then {0} else ∅

def amountOf' : SemLoc sig → ℕ
  | .reg _ => 1
  | .dma q => match dec q with
    | some (_, r, st) => amt r st
    | none => 1

def payOf (c : Dev nD) : SemLoc sig → Fin 3 → sProp 𝕄
  | .reg _, k => windows (peer k c) k
  | .dma q, _ => match dec q with
    | some (true, r, st) => recvPay P c r st
    | some (false, r, st) => sendPay P c r st
    | none => iprop(emp)

theorem amt_pos (r : Fin 3) (st : Fin 6) : 0 < amt r st := by
  unfold amt
  split <;> exact sig.dmaCredit_pos _ _ _ _ _ (by revert r st; decide)

def rd : Rounds.Schedule (GSem nD τ sig) (Fin 3) 𝕄 where
  duties g r := if r = 0 ∧ g.1.2 = .tc then dutiesOf g.2 else ∅
  unitless _ := False
  amount g _ _ := amountOf' g.2
  payload g _ d := payOf P g.1.1 g.2 d
  amount_pos g _ _ _ := by
    rcases g with ⟨c, s | q⟩
    · exact Nat.one_pos
    · show 0 < amountOf' (.dma q)
      dsimp only [amountOf']
      rcases h : dec q with _ | ⟨b, r, st⟩
      · exact Nat.one_pos
      · exact amt_pos r st

instance rd_storable (g : GSem nD τ sig) (r : ℕ) (d : Fin 3) : BI.Storable (upEmb : UEmb _ 𝕄) ((rd P).payload g r d) := by
  show BI.Storable upEmb (payOf P g.1.1 g.2 d)
  unfold payOf
  (repeat' split) <;> infer_instance

section Tables
variable (c : Dev nD) (r : Fin 3) (st : Fin 6)

theorem duties_bar : (rd P).duties (barC c) 0 = Finset.univ := by
  dsimp only [rd]; rw [if_pos ⟨rfl, rfl⟩]; rfl
theorem duties_send : (rd P).duties (sendC c r st) 0 = {0} := by
  dsimp only [rd]; rw [if_pos ⟨rfl, rfl⟩]; dsimp only [dutiesOf]; rw [dec_send]; rfl
theorem duties_recv : (rd P).duties (recvC c r st) 0 = {0} := by
  dsimp only [rd]; rw [if_pos ⟨rfl, rfl⟩]; dsimp only [dutiesOf]; rw [dec_recv]; rfl
theorem duties_later (g : GSem nD τ sig) : ∀ n, 1 ≤ n → (rd P).duties g n = ∅ :=
  fun n hn => if_neg fun h => by omega

theorem amount_send (d : Fin 3) : (rd P).amount (sendC c r st) 0 d = amt r st := by
  dsimp only [rd, amountOf']; rw [dec_send]
theorem amount_recv (d : Fin 3) : (rd P).amount (recvC c r st) 0 d = amt r st := by
  dsimp only [rd, amountOf']; rw [dec_recv]

theorem expect_bar : (rd P).expect (barC c) 0 = 3 := by
  unfold Schedule.expect Schedule.amountOf; rw [duties_bar]; rfl
theorem expect_send : (rd P).expect (sendC c r st) 0 = amt r st := by
  unfold Schedule.expect Schedule.amountOf; rw [duties_send, Finset.sum_singleton, amount_send]
theorem expect_recv : (rd P).expect (recvC c r st) 0 = amt r st := by
  unfold Schedule.expect Schedule.amountOf; rw [duties_recv, Finset.sum_singleton, amount_recv]

theorem payload_bar (k : Fin 3) : (rd P).payload (barC c) 0 k = windows (peer k c) k := rfl
theorem payload_send (d : Fin 3) : (rd P).payload (sendC c r st) 0 d = sendPay P c r st := by
  dsimp only [rd, payOf]; rw [dec_send]
theorem payload_recv (d : Fin 3) : (rd P).payload (recvC c r st) 0 d = recvPay P c r st := by
  dsimp only [rd, payOf]; rw [dec_recv]

/-- All of a send cell's round is the one transfer's payload, -/
theorem rest_send : bigSep ((rd P).duties (sendC c r st) 0 \ ∅) (fun u => (rd P).payload (sendC c r st) 0 u) = sendPay P c r st := by
  rw [Finset.sdiff_empty, duties_send, bigSep_singleton, payload_send]
/-- all of a receive cell's likewise, -/
theorem rest_recv : bigSep ((rd P).duties (recvC c r st) 0 \ ∅) (fun u => (rd P).payload (recvC c r st) 0 u) = recvPay P c r st := by
  rw [Finset.sdiff_empty, duties_recv, bigSep_singleton, payload_recv]
/-- and all of the barrier's, the three partners' windows. -/
theorem rest_bar : bigSep ((rd P).duties (barC c) 0 \ ∅) (fun u => (rd P).payload (barC c) 0 u)
    = iprop(windows (peer 0 c) 0 ∗ windows (peer 1 c) 1 ∗ windows (peer 2 c) 2) := by
  rw [Finset.sdiff_empty, duties_bar]
  exact bigSep_univ_eq_bigSepL [0, 1, 2] (by decide) (by decide) _

end Tables

/-! ## What each device owes, and the levels

Transfers are numbered in program order: phase by phase, rail by rail. -/

/-- The place of a transfer in program order. -/
def pos (r : Fin 3) (st : Fin 6) : ℕ := 3 * st.val + r.val

/-- What device `c` owes its partner's receive cell for one transfer, -/
def owe (c : Dev nD) (r : Fin 3) (st : Fin 6) : CellTallies nD τ sig Unit := tallyAt (recvC (mate r st c) r st) () (amt r st)

/-- and for the last `n` transfers. -/
def oweN (c : Dev nD) : ℕ → CellTallies nD τ sig Unit
  | 0 => 0
  | n + 1 => oweN c n + owe c (Fin.ofNat 3 ((17 - n) % 3)) (Fin.ofNat 6 ((17 - n) / 3))

/-- One unit to each partner's barrier. -/
def oweBar (c : Dev nD) (k : Fin 3) : CellTallies nD τ sig Unit := tallyAt (barC (peer k c)) () 1

/-- All that device `c` owes at launch. -/
def O₀ (c : Dev nD) : CellTallies nD τ sig Unit := oweN c 18 + oweBar c 2 + oweBar c 1 + oweBar c 0

def L (g : GSem nD τ sig) : Finset Unit := if g.1.2 = .tc then {()} else ∅

/-- A wait is allowed below everything still owed: barrier first, then the receive cells in program order. -/
def lvOf : SemLoc sig → ℕ
  | .reg _ => 1
  | .dma q => match dec q with
    | some (true, r, st) => 2 + pos r st
    | _ => 0

def lv (g : GSem nD τ sig) (_ : Unit) : ℕ := lvOf g.2

theorem lv_send (c : Dev nD) (r st) (u : Unit) : lv (sendC c r st) u = 0 := by
  show lvOf (.dma (sendS r st)) = 0
  dsimp only [lvOf]; rw [dec_send]
theorem lv_recv (c : Dev nD) (r st) (u : Unit) : lv (recvC c r st) u = 2 + pos r st := by
  show lvOf (.dma (recvS r st)) = _
  dsimp only [lvOf]; rw [dec_recv]
theorem lv_bar (c : Dev nD) (u : Unit) : lv (barC c) u = 1 := rfl

theorem L_of_ne (g : GSem nD τ sig) (h : g.1.2 ≠ .tc) : L g = ∅ := if_neg h
theorem L_tc (c : Dev nD) (sm : SemLoc sig) : L ((c : Thread nD τ), sm) = {()} := if_pos rfl

/-- Tallies all of whose cells lie above level `n`. -/
def Above (n : ℕ) (O : CellTallies nD τ sig Unit) : Prop := ∀ g u, 0 < O g u → u ∈ L g ∧ n < lv g u

theorem above_zero (n : ℕ) : Above n 0 := fun g u h => absurd h (Nat.lt_irrefl 0)

theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0

theorem above_tally {n : ℕ} (c : Dev nD) (sm : SemLoc sig) (a : ℕ) (h : n < lvOf sm) : Above n (tallyAt ((c : Thread nD τ), sm) () a) := fun g u hg => by
  rw [tallyAt_apply] at hg
  by_cases he : g = ((c : Thread nD τ), sm) ∧ u = ()
  · rw [he.1, L_tc]; exact ⟨Finset.mem_singleton_self _, h⟩
  · rw [if_neg he] at hg; exact absurd hg (Nat.lt_irrefl 0)

theorem above_owe {n : ℕ} (c : Dev nD) (r st) (h : n < 2 + pos r st) : Above n (owe c r st) :=
  above_tally _ _ _ (by rw [show lvOf (.dma (recvS r st)) = 2 + pos r st from lv_recv c r st ()]; exact h)

theorem above_oweN {m : ℕ} (c : Dev nD) : ∀ n, n ≤ 18 → m + n < 20 → Above m (oweN c n)
  | 0, _, _ => above_zero m
  | n + 1, hn, h => above_add (above_oweN c n (by omega) (by omega)) (above_owe c _ _ (by
      unfold pos
      rw [show (Fin.ofNat 6 ((17 - n) / 3)).val = (17 - n) / 3 from Nat.mod_eq_of_lt (by omega),
        show (Fin.ofNat 3 ((17 - n) % 3)).val = (17 - n) % 3 from Nat.mod_eq_of_lt (by omega)]
      omega))

/-- A wait on a cell below everything still owed is allowed. -/
theorem mayWait {c : Dev nD} {sm : SemLoc sig} {n : ℕ} {O : CellTallies nD τ sig Unit} (hs : lvOf sm ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1) (fun p hp => by rw [Finset.mem_singleton.mp hp]; exact hs) (fun g u hg => (hO g u hg).2)

end Cert.KernelIdeal.Body

end
-- ==== Proof.Steps.lean ====
/-
# One lemma per kind of step

Starting a transfer, waiting for it at either end, and adding what landed: each is proved once, for a symbolic device,
rail and stage, and the run of the kernel uses them at its places.
-/
module

public import proofs.«01_k».proof.Proof.Sched

@[expose] public section

noncomputable section

namespace Cert.KernelIdeal.Body

open Cert.KernelIdeal Cert.KernelIdeal.Gen Cert.Butterfly

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (P : Dev nD → Cont F)

/-! ## Phases -/

/-- The reduce-scatter phase of a stage, -/
def ph (s : Fin 3) : Fin 6 := ⟨s.val, by omega⟩
/-- and the all-gather phase that undoes it. -/
def ag (s : Fin 3) : Fin 6 := ⟨5 - s.val, by omega⟩

theorem sg_ph (s : Fin 3) : sg (ph s) = s := by revert s; decide
theorem sg_ag (s : Fin 3) : sg (ag s) = s := by revert s; decide
theorem ph_lt (s : Fin 3) : (ph s).val < 3 := s.isLt
theorem ag_not_lt (s : Fin 3) : ¬(ag s).val < 3 := by revert s; decide

theorem amt_ph (r s : Fin 3) : amt r (ph s) = (cc0_scratch1 : Ref sig .tc).dmaCredit ⟨2, ![half s, cw r]⟩ .bf16 := by
  unfold amt; rw [if_pos (ph_lt s), sg_ph]
theorem amt_ag (r s : Fin 3) : amt r (ag s) = (cc0_scratch0 : Ref sig .tc).dmaCredit ⟨2, ![half s, cw r]⟩ .bf16 := by
  unfold amt; rw [if_neg (ag_not_lt s), sg_ag]

/-! ## Memory regions -/

/-- Only the values on the region matter. -/
theorem accP_congr {c : Dev nD} {I : Finset SB.Idx} {f g : Cont F} (h : ∀ i ∈ I, f i = g i) : (accP c I f : sProp 𝕄) = accP c I g :=
  pointsTo_congr h
theorem winP_congr {c : Dev nD} {I : Finset SB.Idx} {f g : Cont F} (h : ∀ i ∈ I, f i = g i) : (winP c I f : sProp 𝕄) = winP c I g :=
  pointsTo_congr h

/-- The held rows of a rail are its kept and its sent rows. -/
theorem accP_split (c : Dev nD) (r s : Fin 3) (f : Cont F) :
    (accP c (reg r (held r s c) (2 * half s)) f : sProp 𝕄)
      ⊣⊢ iprop(accP c (reg r (kept r s c) (half s)) f ∗ accP c (reg r (sent r s c) (half s)) f) := by
  rw [reg_split]; exact pointsTo_union (reg_disjoint r s c)

/-- Whole rows are the three rails' rows. -/
theorem accP_rows (c : Dev nD) (lo n : ℕ) (f : Cont F) :
    (accP c (rows lo n) f : sProp 𝕄) = iprop(accP c (reg 0 lo n) f ∗ accP c (reg 1 lo n) f ∗ accP c (reg 2 lo n) f) := by
  rw [rows_eq_biUnion]
  refine (pointsTo_biUnion Finset.univ _ fun r _ r' _ h => reg_disjoint_rail h lo n lo n).trans ?_
  exact bigSep_univ_eq_bigSepL [0, 1, 2] (by decide) (by decide) _

/-! ## What a transfer writes -/

section Views

variable {offS offD sz : Fin 2 → ℕ} {inbS : ∀ a, offS a + sz a ≤ SB.size a} {inbD : ∀ a, offD a + sz a ≤ SB.size a}

/-- A slice of the accumulator, -/
abbrev accM (off sz : Fin 2 → ℕ) (inb : ∀ a, off a + sz a ≤ SB.size a) : Memref sig .tc .vmem ⟨2, sz⟩ .bf16 :=
  (Memref.whole cc0_scratch0 : Memref sig .tc .vmem S256x1024 .bf16).slice (Rect.unit (s := S256x1024) off sz inb) (fun _ => rfl)
/-- and of the receive buffer. -/
abbrev winM (off sz : Fin 2 → ℕ) (inb : ∀ a, off a + sz a ≤ SB.size a) : Memref sig .tc .vmem ⟨2, sz⟩ .bf16 :=
  (Memref.whole cc0_scratch1 : Memref sig .tc .vmem S256x1024 .bf16).slice (Rect.unit (s := S256x1024) off sz inb) (fun _ => rfl)

theorem accM_set (r : Fin 3) (lo n : ℕ) (ho : offS = ![lo, cl r]) (hs : sz = ![n, cw r]) : (accM offS sz inbS).view.set = reg r lo n :=
  (View.set_slice_whole cc0_scratch0 _).trans (set_eq_reg inbS ho hs)
theorem winM_set (r : Fin 3) (lo n : ℕ) (ho : offS = ![lo, cl r]) (hs : sz = ![n, cw r]) : (winM offS sz inbS).view.set = reg r lo n :=
  (View.set_slice_whole cc0_scratch1 _).trans (set_eq_reg inbS ho hs)

theorem read_acc (f : Cont F) (x : (⟨2, sz⟩ : Shape).Idx) : (accM offS sz inbS).view.read (Elt F) f x = f ((Rect.unit (s := SB) offS sz inbS).emb x) := rfl

/-- A transfer from rows `a …` of the accumulator to rows `b …` of the receive buffer. -/
theorem write_win (r : Fin 3) (a b n : ℕ) (hS : offS = ![a, cl r]) (hD : offD = ![b, cl r]) (hs : sz = ![n, cw r]) (ha : a + n ≤ 256)
    (f g : Cont F) (i : SB.Idx) (hi : i ∈ reg r b n) :
    (winM offD sz inbD).view.write (Elt F) g ((accM offS sz inbS).view.read (Elt F) f) Finset.univ i
      = f (ix ⟨((i 0).val - b + a) % 256, Nat.mod_lt _ (by decide)⟩ (i 1)) := by
  rw [← winM_set (inbS := inbD) r b n hD hs] at hi
  obtain ⟨x, -, rfl⟩ := Finset.mem_map.mp hi
  refine (View.write_emb_of_mem _ _ (Finset.mem_univ x)).trans ?_
  refine congrArg f (idx_ext ?_ ?_)
  · have hx : (x 0).val < n := lt_of_lt_of_eq (x 0).isLt (congrFun hs 0)
    show offS 0 + 1 * (x 0).val = ((offD 0 + 1 * (x 0).val) - b + a) % 256
    have h0 : offS 0 = a := by rw [hS]; rfl
    have h1 : offD 0 = b := by rw [hD]; rfl
    rw [h0, h1]
    omega
  · show offS 1 + 1 * (x 1).val = offD 1 + 1 * (x 1).val
    rw [hS, hD]; rfl

/-- What a reduce-scatter transfer of device `c` leaves in its partner's window. -/
theorem write_landed (r s : Fin 3) (c : Dev nD) (hS : offS = ![sent r s c, cl r]) (hD : offD = ![wrow s, cl r]) (hs : sz = ![half s, cw r])
    (g : Cont F) (i : SB.Idx) (hi : i ∈ reg r (wrow s) (half s)) :
    (winM offD sz inbD).view.write (Elt F) g ((accM offS sz inbS).view.read (Elt F) (part P s.val c)) Finset.univ i = landed P r s (peer (dir r s) c) i := by
  refine (write_win r (sent r s c) (wrow s) (half s) hS hD hs ?_ _ _ i hi).trans ?_
  · have := held_le r s c; rcases halves r s c with h | h <;> omega
  · show _ = part P s.val (peer (dir r s) (peer (dir r s) c)) (ix ⟨((i 0).val - wrow s + kept r s (peer (dir r s) c)) % 256, _⟩ (i 1))
    have hk := kept_peer r s c
    have hc : peer (dir r s) (peer (dir r s) c) = c := peer_peer _ _
    rw [hc]
    refine congrArg (part P s.val c) (idx_ext ?_ rfl)
    show ((i 0).val - wrow s + sent r s c) % 256 = ((i 0).val - wrow s + kept r s (peer (dir r s) c)) % 256
    rw [hk]

/-- A transfer between the same rows of two accumulators copies them. -/
theorem write_acc {inbS' : ∀ a, offS a + sz a ≤ SB.size a} (r : Fin 3) (a n : ℕ) (hS : offS = ![a, cl r]) (hs : sz = ![n, cw r]) (f g : Cont F) (i : SB.Idx) (hi : i ∈ reg r a n) :
    (accM offS sz inbS).view.write (Elt F) g ((accM offS sz inbS').view.read (Elt F) f) Finset.univ i = f i := by
  rw [← accM_set (inbS := inbS) r a n hS hs] at hi
  obtain ⟨x, -, rfl⟩ := Finset.mem_map.mp hi
  exact View.write_emb_of_mem _ _ (Finset.mem_univ x)

end Views

/-! ## Shared facts and bundles -/

/-- The cells of a device: its barrier, and a send and a receive cell for each transfer. -/
abbrev Kx : Type := Option (Bool × Fin 3 × Fin 6)

/-- The semaphore of a cell. -/
def ksem : Kx → SemLoc sig
  | none => barL
  | some (false, r, st) => .dma (sendS r st)
  | some (true, r, st) => .dma (recvS r st)

abbrev kcell (ck : Dev nD × Kx) : GSem nD τ sig := ((ck.1 : Thread nD τ), ksem ck.2)

/-- What everyone may know: each cell's invariant, and that its first round is open. -/
def records (K : Dev nD × Kx → ℕ) : sProp 𝕄 :=
  iprop((bigSep Finset.univ fun ck : Dev nD × Kx => cellInv ER (rd P) (K ck) (kcell ck))
    ∗ bigSep Finset.univ fun ck : Dev nD × Kx => reached ER (kcell ck) 0)
instance records_persistent (K : Dev nD × Kx → ℕ) : BI.Persistent (records P K) := by unfold records; infer_instance

theorem inv_at (K : Dev nD × Kx → ℕ) (ck : Dev nD × Kx) : records P K ⊢ cellInv ER (rd P) (K ck) (kcell ck) := by
  unfold records
  exact sep_elim_left.trans (bigSep_elim (Finset.mem_univ ck))
theorem reached_at (K : Dev nD × Kx → ℕ) (ck : Dev nD × Kx) : records P K ⊢ reached ER (kcell ck) 0 := by
  unfold records
  exact sep_elim_right.trans (bigSep_elim (Finset.mem_univ ck))

/-- The duties' tokens of a transfer that has not started. -/
def unsent (c : Dev nD) (r : Fin 3) (st : Fin 6) : sProp 𝕄 :=
  iprop(dutyTok ER (sendC c r st) 0 (0 : Fin 3) ∗ dutyTok ER (recvC (mate r st c) r st) 0 (0 : Fin 3))

/-- The positions at a transfer's two ends, and the credit to wait for its landing. -/
def openS (c : Dev nD) (r : Fin 3) (st : Fin 6) : sProp 𝕄 := atPos ER (sendC c r st) 0 ∅ 0
def openR (c : Dev nD) (r : Fin 3) (st : Fin 6) : sProp 𝕄 := iprop(atPos ER (recvC c r st) 0 ∅ 0 ∗ cred (tallyAt (recvC c r st) () (amt r st)))

/-- What the device still owes, whatever it has waited on. -/
def ow (c : Dev nD) (O : CellTallies nD τ sig Unit) : sProp 𝕄 := iprop(∃ W, owes (c : Thread nD τ) O W)

abbrev 𝒱₀ : Variants := Variants.none

variable (K : Dev nD × Kx → ℕ)

/-! ## Starting a transfer -/

section Start

variable {offS offD sz : Fin 2 → ℕ} {inbS : ∀ a, offS a + sz a ≤ SB.size a} {inbD : ∀ a, offD a + sz a ≤ SB.size a}

/-- Reduce-scatter: the sent rows go to the partner's window, and the partner gets the rows themselves too. -/
theorem start_rs (r s : Fin 3) (c n : Dev nD) (qs qr : DmaSem sig) (hn : n = peer (dir r s) c) (hqs : qs = sendS r (ph s)) (hqr : qr = recvS r (ph s))
    (hS : offS = ![sent r s c, cl r]) (hD : offD = ![wrow s, cl r]) (hsz : sz = ![half s, cw r])
    {hsc : (winM offD sz inbD : Memref sig (Dev.tc n : Thread nD τ).2.kind .vmem ⟨2, sz⟩ .bf16).view.ref.isScScratch = false}
    {hsrc : (accM offS sz inbS).view.WordExact} {hdst : (winM offD sz inbD).view.WordExact}
    {hsem : DmaTarget.Typed .vmem (.dma qr) (.remote (Dev.tc n : Thread nD τ) (winM offD sz inbD) (.dma qs) hsc)}
    {α : Type} {Q : α → sProp 𝕄} {k : PUnit → Prog (TpuEff nD τ sig (Elt F) Λ₀ .tc) α} (O : CellTallies nD τ sig Unit) :
    iprop(records P K ∗ unsent c r (ph s) ∗ accP c (reg r (sent r s c) (half s)) (part P s.val c) ∗ (∃ f, winP (peer (dir r s) c) (win r s) f)
        ∗ ow c (O + owe c r (ph s)))
      ⊢ iprop(((cred (tallyAt (sendC c r (ph s)) () (amt r (ph s))) ∗ ow c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (accM offS sz inbS) (.remote (Dev.tc n : Thread nD τ) (winM offD sz inbD) (.dma qs) hsc) (.dma qr) hsrc hdst hsem) k) Q) := by
  subst hn hqs hqr
  have hm : mate r (ph s) c = peer (dir r s) c := by unfold mate; rw [sg_ph]
  have hset : (accM offS sz inbS).view.set = reg r (sent r s c) (half s) := accM_set r _ _ hS hsz
  have hset' : (winM offD sz inbD).view.set = win r s := winM_set r _ _ hD hsz
  unfold unsent ow owe
  rw [hm]
  unfold accP winP
  iintro ⟨#HR, ⟨Ht, Ht'⟩, Ha, ⟨%g, Hw⟩, ⟨%W, HO⟩⟩ Hk
  iapply (Rounds.wp_send_landing_pointsTo 𝒱₀ ER (rd P) (c : Thread nD τ) none (c' := (peer (dir r s) c : Thread nD τ))
    (src := accM offS sz inbS) (dst := winM offD sz inbD)
    (κ₁ := K (c, some (false, r, ph s))) (κ₂ := K (peer (dir r s) c, some (true, r, ph s)))
    (r₁ := 0) (r₂ := 0) (d₁ := (0 : Fin 3)) (d₂ := (0 : Fin 3)) (fd := g) (fs := part P s.val c) (q := fullShare)
    (by rw [duties_send]; exact Finset.mem_singleton_self _) (by rw [duties_recv]; exact Finset.mem_singleton_self _)
    () () (amt r (ph s)) (by rw [amt_ph]; subst hsz; rfl) (amount_send P c r (ph s) 0) (amount_recv P _ r (ph s) 0) O rfl (W := W)
    (by rw [payload_send]; unfold sendPay; rw [if_pos (ph_lt s)]) (by
      rw [payload_recv]; unfold recvPay; rw [if_pos (ph_lt s), sg_ph, hset, hset']
      have hp : mate r (ph s) (peer (dir r s) c) = c := by unfold mate; rw [sg_ph, peer_peer]
      rw [hp, kept_peer]
      exact sep_mono (Entails.of_eq (pointsTo_congr fun i hi => write_landed P r s c hS hD hsz _ i hi))
        (Idealize.SL.BI.BIClass.exists_intro (part P s.val c)))) $$ [Ht Ht' Ha Hw HO]
  · isplitr; · iapply (inv_at P K (c, some (false, r, ph s))); iexact HR
    isplitr; · iapply (inv_at P K (peer (dir r s) c, some (true, r, ph s))); iexact HR
    isplitl [Ha]; · rw [hset]; iexact Ha
    isplitl [Hw]; · rw [hset']; iexact Hw
    isplitl [HO]; · iexact HO
    isplitl [Ht]; · iexact Ht
    isplitr; · iapply (reached_at P K (c, some (false, r, ph s))); iexact HR
    isplitl [Ht']; · iexact Ht'
    iapply (reached_at P K (peer (dir r s) c, some (true, r, ph s))); iexact HR
  iintro ⟨Hc, HO⟩
  iapply Hk
  isplitl [Hc]; · iexact Hc
  iexists W; iexact HO

/-- All-gather: the finished rows are copied to the partner's accumulator. -/
theorem start_ag (r s : Fin 3) (c n : Dev nD) (qs qr : DmaSem sig) (hn : n = peer (dir r s) c) (hqs : qs = sendS r (ag s)) (hqr : qr = recvS r (ag s))
    (hS : offS = ![kept r s c, cl r]) (hsz : sz = ![half s, cw r])
    {hsc : (accM offS sz inbS : Memref sig (Dev.tc n : Thread nD τ).2.kind .vmem ⟨2, sz⟩ .bf16).view.ref.isScScratch = false}
    {hsrc : (accM offS sz inbS).view.WordExact} {hdst : (accM offS sz inbS).view.WordExact}
    {hsem : DmaTarget.Typed .vmem (.dma qr) (.remote (Dev.tc n : Thread nD τ) (accM offS sz inbS) (.dma qs) hsc)}
    {α : Type} {Q : α → sProp 𝕄} {k : PUnit → Prog (TpuEff nD τ sig (Elt F) Λ₀ .tc) α} (O : CellTallies nD τ sig Unit) :
    iprop(records P K ∗ unsent c r (ag s) ∗ accP c (reg r (kept r s c) (half s)) (fin P) ∗ (∃ f, accP (peer (dir r s) c) (reg r (kept r s c) (half s)) f)
        ∗ ow c (O + owe c r (ag s)))
      ⊢ iprop(((cred (tallyAt (sendC c r (ag s)) () (amt r (ag s))) ∗ ow c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (accM offS sz inbS) (.remote (Dev.tc n : Thread nD τ) (accM offS sz inbS) (.dma qs) hsc) (.dma qr) hsrc hdst hsem) k) Q) := by
  subst hn hqs hqr
  have hm : mate r (ag s) c = peer (dir r s) c := by unfold mate; rw [sg_ag]
  have hset : (accM offS sz inbS).view.set = reg r (kept r s c) (half s) := accM_set r _ _ hS hsz
  unfold unsent ow owe
  rw [hm]
  unfold accP
  iintro ⟨#HR, ⟨Ht, Ht'⟩, Ha, ⟨%g, Hw⟩, ⟨%W, HO⟩⟩ Hk
  iapply (Rounds.wp_send_pointsTo 𝒱₀ ER (rd P) (c : Thread nD τ) none (c' := (peer (dir r s) c : Thread nD τ))
    (src := accM offS sz inbS) (dst := accM offS sz inbS)
    (κ₁ := K (c, some (false, r, ag s))) (κ₂ := K (peer (dir r s) c, some (true, r, ag s)))
    (r₁ := 0) (r₂ := 0) (d₁ := (0 : Fin 3)) (d₂ := (0 : Fin 3)) (fd := g) (fs := fin P) (q := fullShare)
    (by rw [duties_send]; exact Finset.mem_singleton_self _) (by rw [duties_recv]; exact Finset.mem_singleton_self _)
    () () (amt r (ag s)) (by rw [amt_ag]; subst hsz; rfl) (amount_send P c r (ag s) 0) (amount_recv P _ r (ag s) 0) O rfl (W := W)
    (by rw [payload_send]; unfold sendPay; rw [if_neg (ag_not_lt s), sg_ag, hset]; exact Entails.rfl) (by
      rw [payload_recv]; unfold recvPay; rw [if_neg (ag_not_lt s), sg_ag, hset, sent_peer]
      exact Entails.of_eq (pointsTo_congr fun i hi => write_acc r (kept r s c) (half s) hS hsz _ _ i hi))) $$ [Ht Ht' Ha Hw HO]
  · isplitr; · iapply (inv_at P K (c, some (false, r, ag s))); iexact HR
    isplitr; · iapply (inv_at P K (peer (dir r s) c, some (true, r, ag s))); iexact HR
    isplitl [Ha]; · rw [hset]; iexact Ha
    isplitl [Hw]; · rw [hset]; iexact Hw
    isplitl [HO]; · iexact HO
    isplitl [Ht]; · iexact Ht
    isplitr; · iapply (reached_at P K (c, some (false, r, ag s))); iexact HR
    isplitl [Ht']; · iexact Ht'
    iapply (reached_at P K (peer (dir r s) c, some (true, r, ag s))); iexact HR
  iintro ⟨Hc, HO⟩
  iapply Hk
  isplitl [Hc]; · iexact Hc
  iexists W; iexact HO

end Start

/-! ## Waiting at either end -/

section Wait

variable {sp sp' : Space} {s₁ s₂ : Shape} {e₁ e₂ : EltTy}

/-- The wait for a transfer to have left: its payload comes back and the cell closes. -/
theorem wait_send (r : Fin 3) (st : Fin 6) (c : Dev nD) (q : DmaSem sig) (hq : q = sendS r st) (O : CellTallies nD τ sig Unit) (hO : Above 0 O)
    {src : Memref sig .tc sp' s₂ e₂} {dst : Memref sig .tc sp s₁ e₁} (hN : dst.view.dmaCredit = amt r st)
    {hsrc : src.view.WordExact} {hdst : dst.view.WordExact}
    {α : Type} {Q : α → sProp 𝕄} {k : PUnit → Prog (TpuEff nD τ sig (Elt F) Λ₀ .tc) α} :
    iprop(records P K ∗ levAts L lv ∗ openS c r st ∗ cred (tallyAt (sendC c r st) () (amt r st)) ∗ ow c O)
      ⊢ iprop(((ow c O ∗ semVal (sendC c r st) 0 ∗ sendPay P c r st) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  unfold ow openS
  iintro ⟨#HR, #Hlev, Hat, Hc, ⟨%W, HO⟩⟩ Hk
  iapply (Rounds.wp_wait_rest_token 𝒱₀ ER (rd P) (c : Thread nD τ) none (κ := K (c, some (false, r, st)))
      (wpE_waitDma2_eq 𝒱₀ (c : Thread nD τ) none Set.univ) (Set.mem_univ _) () (O := O) (W := W) (R := 0) (m := 0) (T := ∅)
      (by rw [Nat.zero_add, hN]; exact (expect_send P c r st).symm)) $$ [Hc HO Hat]
  · isplitr; · iapply (inv_at P K (c, some (false, r, st))); iexact HR
    isplitl [Hc]; · rw [hN]; iexact Hc
    isplitl [HO]; · iexact HO
    isplitr; · iapply (mayWait (n := 0) (Nat.le_of_eq (lv_send c r st ())) hO); iexact Hlev
    iexact Hat
  iintro ⟨HO, Hat, -, Hpay⟩
  imod (Rounds.cell_close ER (rd P) (Set.mem_univ (K (c, some (false, r, st)))) (fun h => h) (R := 0 + 1) (duties_later P (sendC c r st))) $$ [Hat] with Hz
  · isplitr; · iapply (inv_at P K (c, some (false, r, st))); iexact HR
    iexact Hat
  iapply Hk
  isplitl [HO]; · iexists _; iexact HO
  isplitl [Hz]; · iexact Hz
  iapply (Entails.of_eq (rest_send P c r st)); iexact Hpay

/-- The wait for a transfer's landing. -/
theorem wait_recv (r : Fin 3) (st : Fin 6) (c : Dev nD) (q : DmaSem sig) (hq : q = recvS r st) (O : CellTallies nD τ sig Unit) (hO : Above (2 + pos r st) O)
    {src : Memref sig .tc sp' s₂ e₂} {dst : Memref sig .tc sp s₁ e₁} (hN : dst.view.dmaCredit = amt r st)
    {hsrc : src.view.WordExact} {hdst : dst.view.WordExact}
    {α : Type} {Q : α → sProp 𝕄} {k : PUnit → Prog (TpuEff nD τ sig (Elt F) Λ₀ .tc) α} :
    iprop(records P K ∗ levAts L lv ∗ openR c r st ∗ ow c O)
      ⊢ iprop(((ow c O ∗ semVal (recvC c r st) 0 ∗ recvPay P c r st) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  unfold ow openR
  iintro ⟨#HR, #Hlev, ⟨Hat, Hc⟩, ⟨%W, HO⟩⟩ Hk
  iapply (Rounds.wp_wait_rest_token 𝒱₀ ER (rd P) (c : Thread nD τ) none (κ := K (c, some (true, r, st)))
      (wpE_waitDma2_eq 𝒱₀ (c : Thread nD τ) none Set.univ) (Set.mem_univ _) () (O := O) (W := W) (R := 0) (m := 0) (T := ∅)
      (by rw [Nat.zero_add, hN]; exact (expect_recv P c r st).symm)) $$ [Hc HO Hat]
  · isplitr; · iapply (inv_at P K (c, some (true, r, st))); iexact HR
    isplitl [Hc]; · rw [hN]; iexact Hc
    isplitl [HO]; · iexact HO
    isplitr; · iapply (mayWait (n := 2 + pos r st) (Nat.le_of_eq (lv_recv c r st ())) hO); iexact Hlev
    iexact Hat
  iintro ⟨HO, Hat, -, Hpay⟩
  imod (Rounds.cell_close ER (rd P) (Set.mem_univ (K (c, some (true, r, st)))) (fun h => h) (R := 0 + 1) (duties_later P (recvC c r st))) $$ [Hat] with Hz
  · isplitr; · iapply (inv_at P K (c, some (true, r, st))); iexact HR
    iexact Hat
  iapply Hk
  isplitl [HO]; · iexists _; iexact HO
  isplitl [Hz]; · iexact Hz
  iapply (Entails.of_eq (rest_recv P c r st)); iexact Hpay

/-- What a transfer hands back, in each phase. -/
theorem sendPay_ph (c : Dev nD) (r s : Fin 3) : sendPay P c r (ph s) = iprop(emp) := by unfold sendPay; rw [if_pos (ph_lt s)]
theorem sendPay_ag (c : Dev nD) (r s : Fin 3) : sendPay P c r (ag s) = accP c (reg r (kept r s c) (half s)) (fin P) := by
  unfold sendPay; rw [if_neg (ag_not_lt s), sg_ag]
theorem recvPay_ph (c : Dev nD) (r s : Fin 3) : recvPay P c r (ph s)
    = iprop(winP c (win r s) (landed P r s c) ∗ ∃ f, accP (peer (dir r s) c) (reg r (kept r s c) (half s)) f) := by
  unfold recvPay mate; rw [if_pos (ph_lt s), sg_ph]
theorem recvPay_ag (c : Dev nD) (r s : Fin 3) : recvPay P c r (ag s) = accP c (reg r (sent r s c) (half s)) (fin P) := by
  unfold recvPay; rw [if_neg (ag_not_lt s), sg_ag]

end Wait

/-! ## Adding what landed -/

section Add

variable {off offW sz : Fin 2 → ℕ} {inb : ∀ a, off a + sz a ≤ SB.size a} {inbW : ∀ a, offW a + sz a ≤ SB.size a}

/-- The sum of the kept rows and the window is the next stage's partial sum. -/
theorem add_value (r s : Fin 3) (c : Dev nD) (hS : off = ![kept r s c, cl r]) (hW : offW = ![wrow s, cl r]) (hsz : sz = ![half s, cw r])
    (pay : Vec F ⟨2, sz⟩ .bf16 → Vec F ⟨2, sz⟩ .bf16 → Vec F ⟨2, sz⟩ .bf16) (hpay : ∀ v w x, pay v w x = FloatOps.addf (v x) (w x))
    (i : SB.Idx) (hi : i ∈ reg r (kept r s c) (half s)) :
    ((Memref.whole cc0_scratch0 : Memref sig .tc .vmem S256x1024 .bf16).access (Rect.unit (s := S256x1024) off sz inb)).write (Elt F) (part P s.val c)
        (pay ((Memref.whole cc0_scratch0 : Memref sig .tc .vmem S256x1024 .bf16).view.readAt (Elt F) (Rect.unit (s := S256x1024) off sz inb).toLoadRect (part P s.val c))
          ((Memref.whole cc0_scratch1 : Memref sig .tc .vmem S256x1024 .bf16).view.readAt (Elt F) (Rect.unit (s := S256x1024) offW sz inbW).toLoadRect (landed P r s c)))
        Finset.univ i = part P (s.val + 1) c i := by
  rw [← accM_set (inbS := inb) r (kept r s c) (half s) hS hsz] at hi
  obtain ⟨x, -, rfl⟩ := Finset.mem_map.mp hi
  refine (View.write_emb_of_mem _ _ (Finset.mem_univ x)).trans ?_
  refine (hpay _ _ x).trans ?_
  have h0 : ((Rect.unit (s := SB) off sz inb).emb x 0).val = kept r s c + (x 0).val := by
    show off 0 + 1 * (x 0).val = _
    rw [hS]; show kept r s c + 1 * (x 0).val = _; omega
  have h1 : ((Rect.unit (s := SB) off sz inb).emb x 1).val = cl r + (x 1).val := by
    show off 1 + 1 * (x 1).val = _
    rw [hS]; show cl r + 1 * (x 1).val = _; omega
  have hx0 : (x 0).val < half s := lt_of_lt_of_eq (x 0).isLt (congrFun hsz 0)
  have hx1 : (x 1).val < cw r := lt_of_lt_of_eq (x 1).isLt (congrFun hsz 1)
  have hr : rail ((Rect.unit (s := SB) off sz inb).emb x 1).val = r := rail_eq r _ (by omega) (by omega)
  have hb : ((Rect.unit (s := SB) off sz inb).emb x 0).val < 256 := ((Rect.unit (s := SB) off sz inb).emb x 0).isLt
  show FloatOps.addf (part P s.val c ((Rect.unit (s := SB) off sz inb).emb x)) (landed P r s c ((Rect.unit (s := SB) offW sz inbW).emb x))
    = FloatOps.addf (part P s.val c ((Rect.unit (s := SB) off sz inb).emb x))
        (part P s.val (peer (dir (rail ((Rect.unit (s := SB) off sz inb).emb x 1).val) (Fin.ofNat 3 s.val)) c) ((Rect.unit (s := SB) off sz inb).emb x))
  rw [hr, show Fin.ofNat 3 s.val = s from Fin.ext (Nat.mod_eq_of_lt s.isLt)]
  unfold landed
  refine congrArg (FloatOps.addf _) (congrArg (part P s.val (peer (dir r s) c)) (idx_ext ?_ ?_))
  · refine Eq.trans (ix_zero _ _) ?_
    rw [h0]
    show (offW 0 + 1 * (x 0).val - wrow s + kept r s c) % 256 = _
    have : offW 0 = wrow s := by rw [hW]; rfl
    rw [this]; omega
  · refine Eq.trans (ix_one _ _) ?_
    rw [h1]
    show offW 1 + 1 * (x 1).val = _
    rw [hW]; show cl r + 1 * (x 1).val = _; omega

/-- The four operations that add a window to the kept rows. -/
theorem add_landed (r s : Fin 3) (c : Dev nD) (hS : off = ![kept r s c, cl r]) (hW : offW = ![wrow s, cl r]) (hsz : sz = ![half s, cw r])
    (pay : Vec F ⟨2, sz⟩ .bf16 → Vec F ⟨2, sz⟩ .bf16 → Vec F ⟨2, sz⟩ .bf16) (hpay : ∀ v w x, pay v w x = FloatOps.addf (v x) (w x))
    {hl hl' : (Memref.whole cc0_scratch0 : Memref sig .tc .vmem S256x1024 .bf16).view.LoadsAt (Rect.unit (s := S256x1024) off sz inb).toLoadRect}
    {hlw : (Memref.whole cc0_scratch1 : Memref sig .tc .vmem S256x1024 .bf16).view.LoadsAt (Rect.unit (s := S256x1024) offW sz inbW).toLoadRect}
    {hx : ((Memref.whole cc0_scratch0 : Memref sig .tc .vmem S256x1024 .bf16).access (Rect.unit (s := S256x1024) off sz inb)).Stores Finset.univ}
    {hm : (Finset.univ : Finset (⟨2, sz⟩ : Shape).Idx) = Finset.univ ∨ ∀ a, (Rect.unit (s := S256x1024) off sz inb).stride a = 1}
    {α : Type} {Q : α → sProp 𝕄} {k : PUnit → Prog (TpuEff nD τ sig (Elt F) Λ₀ .tc) α} :
    iprop(accP c (reg r (kept r s c) (half s)) (part P s.val c) ∗ winP c (win r s) (landed P r s c))
      ⊢ iprop(((accP c (reg r (kept r s c) (half s)) (part P (s.val + 1) c) ∗ ∃ f, winP c (win r s) f)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load (Memref.whole cc0_scratch0 : Memref sig .tc .vmem S256x1024 .bf16) (Rect.unit (s := S256x1024) off sz inb).toLoadRect hl) fun v =>
                .op (.load (Memref.whole cc0_scratch1 : Memref sig .tc .vmem S256x1024 .bf16) (Rect.unit (s := S256x1024) offW sz inbW).toLoadRect hlw) fun w =>
                .op (.load (Memref.whole cc0_scratch0 : Memref sig .tc .vmem S256x1024 .bf16) (Rect.unit (s := S256x1024) off sz inb).toLoadRect hl') fun _ =>
                .op (.store (Memref.whole cc0_scratch0 : Memref sig .tc .vmem S256x1024 .bf16) (Rect.unit (s := S256x1024) off sz inb) (pay v w) Finset.univ hx hm) k) Q) := by
  have hset : ((Memref.whole cc0_scratch0 : Memref sig .tc .vmem S256x1024 .bf16).access (Rect.unit (s := S256x1024) off sz inb)).set = reg r (kept r s c) (half s) :=
    accM_set (inbS := inb) r _ _ hS hsz
  have hsetw : ((Memref.whole cc0_scratch1 : Memref sig .tc .vmem S256x1024 .bf16).access (Rect.unit (s := S256x1024) offW sz inbW)).set = win r s :=
    winM_set (inbS := inbW) r _ _ hW hsz
  rw [show accP c (reg r (kept r s c) (half s)) (part P (s.val + 1) c) = (accP c (reg r (kept r s c) (half s)) _ : sProp 𝕄) from
    accP_congr fun i hi => (add_value (inb := inb) (inbW := inbW) P r s c hS hW hsz pay hpay i hi).symm]
  unfold accP winP
  iintro ⟨Ha, Hw⟩ Hk
  iapply (wp_load_rect 𝒱₀ (c : Thread nD τ) none Set.univ (m := (Memref.whole cc0_scratch0 : Memref sig .tc .vmem S256x1024 .bf16)) (le_of_eq hset)) $$ Ha; iintro Ha
  iapply (wp_load_rect 𝒱₀ (c : Thread nD τ) none Set.univ (m := (Memref.whole cc0_scratch1 : Memref sig .tc .vmem S256x1024 .bf16)) (le_of_eq hsetw)) $$ Hw; iintro Hw
  iapply (wp_load_rect 𝒱₀ (c : Thread nD τ) none Set.univ (m := (Memref.whole cc0_scratch0 : Memref sig .tc .vmem S256x1024 .bf16)) (le_of_eq hset)) $$ Ha; iintro Ha
  iapply (wp_store 𝒱₀ (c : Thread nD τ) none Set.univ (m := (Memref.whole cc0_scratch0 : Memref sig .tc .vmem S256x1024 .bf16)) (Mk := Finset.univ)
    (le_of_eq hset)) $$ Ha; iintro Ha
  iapply Hk
  isplitl [Ha]; · iexact Ha
  iexists _; iexact Hw

end Add

end Cert.KernelIdeal.Body

end
-- ==== Proof.Rail.lean ====
/-
# The life of an exchange

A rail's stage runs in two exchanges with the same partner: one that reduces, going down, and one that copies the finished rows
back, going up. The pair moves through five states, and each lemma here takes it from one to the next.
-/
module

public import proofs.«01_k».proof.Proof.Steps

@[expose] public section

noncomputable section

namespace Cert.KernelIdeal.Body

open Cert.KernelIdeal Cert.KernelIdeal.Gen Cert.Butterfly

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (P : Dev nD → Cont F) (K : Dev nD × Kx → ℕ)

/-! ## The states -/

/-- The rows a rail holds before a stage of the reduction, with their partial sums, -/
def A (r s : Fin 3) (c : Dev nD) : sProp 𝕄 := accP c (reg r (held r s c) (2 * half s)) (part P s.val c)
/-- the rows it keeps while the others travel, -/
def Kp (r s : Fin 3) (c : Dev nD) : sProp 𝕄 := accP c (reg r (kept r s c) (half s)) (part P s.val c)
/-- the same rows once the window is added, -/
def A' (r s : Fin 3) (c : Dev nD) : sProp 𝕄 := accP c (reg r (kept r s c) (half s)) (part P (s.val + 1) c)
/-- and, going up, the kept rows finished. -/
def Fn (r s : Fin 3) (c : Dev nD) : sProp 𝕄 := accP c (reg r (kept r s c) (half s)) (fin P)
/-- All rows held at a stage, finished. -/
def Fh (r s : Fin 3) (c : Dev nD) : sProp 𝕄 := accP c (reg r (held r s c) (2 * half s)) (fin P)

/-- The exchange that copies back, not started. -/
def upPart (c : Dev nD) (r s : Fin 3) : sProp 𝕄 := iprop(unsent c r (ag s) ∗ openS c r (ag s) ∗ openR c r (ag s))
/-- Both exchanges unstarted, with the partner's window in hand. -/
def pre (c : Dev nD) (r s : Fin 3) : sProp 𝕄 :=
  iprop((unsent c r (ph s) ∗ openS c r (ph s) ∗ openR c r (ph s)) ∗ upPart c r s ∗ ∃ f, winP (peer (dir r s) c) (win r s) f)
/-- The reducing exchange on its way. -/
def run (c : Dev nD) (r s : Fin 3) : sProp 𝕄 :=
  iprop((cred (tallyAt (sendC c r (ph s)) () (amt r (ph s))) ∗ openS c r (ph s) ∗ openR c r (ph s)) ∗ upPart c r s)
/-- The own window back and both cells of the reducing exchange closed. -/
def closed (c : Dev nD) (r s : Fin 3) : sProp 𝕄 :=
  iprop((semVal (sendC c r (ph s)) 0 ∗ semVal (recvC c r (ph s)) 0) ∗ ∃ f, winP c (win r s) f)
/-- The reducing exchange over: the partner's rows are in hand. -/
def mid (c : Dev nD) (r s : Fin 3) : sProp 𝕄 :=
  iprop(closed c r s ∗ (∃ f, accP (peer (dir r s) c) (reg r (kept r s c) (half s)) f) ∗ upPart c r s)
/-- The copying exchange on its way. -/
def back (c : Dev nD) (r s : Fin 3) : sProp 𝕄 :=
  iprop(closed c r s ∗ cred (tallyAt (sendC c r (ag s)) () (amt r (ag s))) ∗ openS c r (ag s) ∗ openR c r (ag s))
/-- It has left. -/
def left (c : Dev nD) (r s : Fin 3) : sProp 𝕄 := iprop(closed c r s ∗ semVal (sendC c r (ag s)) 0 ∗ openR c r (ag s))
/-- Both over. -/
def done (c : Dev nD) (r s : Fin 3) : sProp 𝕄 := iprop(closed c r s ∗ semVal (sendC c r (ag s)) 0 ∗ semVal (recvC c r (ag s)) 0)

/-! ## From a stage to the next -/

theorem next01 (r : Fin 3) (c : Dev nD) : A' P r 0 c = A P r 1 c := by
  unfold A A'; rw [(held_succ r c).2.1]; rfl
theorem next12 (r : Fin 3) (c : Dev nD) : A' P r 1 c = A P r 2 c := by
  unfold A A'; rw [(held_succ r c).2.2]; rfl
theorem next2 (r : Fin 3) (c : Dev nD) : A' P r 2 c = Fn P r 2 c := by
  unfold A' Fn
  refine accP_congr fun i hi => ?_
  rw [mem_reg] at hi
  show part P 3 c i = part P 3 (owner (rail (i 1).val) (i 0).val) i
  rw [rail_eq r _ hi.2.1 hi.2.2, owner_eq r c _ hi.1.1 hi.1.2]
theorem up2 (r : Fin 3) (c : Dev nD) : Fh P r 2 c = Fn P r 1 c := by
  unfold Fh Fn; rw [(held_succ r c).2.2]; rfl
theorem up1 (r : Fin 3) (c : Dev nD) : Fh P r 1 c = Fn P r 0 c := by
  unfold Fh Fn; rw [(held_succ r c).2.1]; rfl

/-! ## The steps -/

section Down

variable {offS offD sz : Fin 2 → ℕ} {inbS : ∀ a, offS a + sz a ≤ SB.size a} {inbD : ∀ a, offD a + sz a ≤ SB.size a}

/-- The sent rows alone leave. -/
theorem send_rs (r s : Fin 3) (c n : Dev nD) (qs qr : DmaSem sig) (hn : n = peer (dir r s) c) (hqs : qs = sendS r (ph s)) (hqr : qr = recvS r (ph s))
    (hS : offS = ![sent r s c, cl r]) (hD : offD = ![wrow s, cl r]) (hsz : sz = ![half s, cw r])
    {hsc : (winM offD sz inbD : Memref sig (Dev.tc n : Thread nD τ).2.kind .vmem ⟨2, sz⟩ .bf16).view.ref.isScScratch = false}
    {hsrc : (accM offS sz inbS).view.WordExact} {hdst : (winM offD sz inbD).view.WordExact}
    {hsem : DmaTarget.Typed .vmem (.dma qr) (.remote (Dev.tc n : Thread nD τ) (winM offD sz inbD) (.dma qs) hsc)}
    {α : Type} {Q : α → sProp 𝕄} {k : PUnit → Prog (TpuEff nD τ sig (Elt F) Λ₀ .tc) α} (O O₀ : CellTallies nD τ sig Unit) (hO : O₀ = O + owe c r (ph s)) :
    iprop(records P K ∗ pre c r s ∗ accP c (reg r (sent r s c) (half s)) (part P s.val c) ∗ ow c O₀)
      ⊢ iprop(((run c r s ∗ ow c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (accM offS sz inbS) (.remote (Dev.tc n : Thread nD τ) (winM offD sz inbD) (.dma qs) hsc) (.dma qr) hsrc hdst hsem) k) Q) := by
  unfold pre run
  subst hO
  iintro ⟨#HR, ⟨⟨Hu, HoS, HoR⟩, Hup, Hw⟩, Ha, HO⟩ Hk
  iapply (start_rs P K r s c n qs qr hn hqs hqr hS hD hsz O) $$ [Hu Ha Hw HO]
  · isplitr; · iexact HR
    isplitl [Hu]; · iexact Hu
    isplitl [Ha]; · iexact Ha
    isplitl [Hw] <;> iassumption
  iintro ⟨Hc, HO⟩
  iapply Hk
  isplitr [HO]
  · isplitr [Hup]
    · isplitl [Hc]; · iexact Hc
      isplitl [HoS] <;> iassumption
    · iexact Hup
  iexact HO

/-- From all held rows: the sent rows leave, the kept ones stay. -/
theorem go_rs (r s : Fin 3) (c n : Dev nD) (qs qr : DmaSem sig) (hn : n = peer (dir r s) c) (hqs : qs = sendS r (ph s)) (hqr : qr = recvS r (ph s))
    (hS : offS = ![sent r s c, cl r]) (hD : offD = ![wrow s, cl r]) (hsz : sz = ![half s, cw r])
    {hsc : (winM offD sz inbD : Memref sig (Dev.tc n : Thread nD τ).2.kind .vmem ⟨2, sz⟩ .bf16).view.ref.isScScratch = false}
    {hsrc : (accM offS sz inbS).view.WordExact} {hdst : (winM offD sz inbD).view.WordExact}
    {hsem : DmaTarget.Typed .vmem (.dma qr) (.remote (Dev.tc n : Thread nD τ) (winM offD sz inbD) (.dma qs) hsc)}
    {α : Type} {Q : α → sProp 𝕄} {k : PUnit → Prog (TpuEff nD τ sig (Elt F) Λ₀ .tc) α} (O O₀ : CellTallies nD τ sig Unit) (hO : O₀ = O + owe c r (ph s)) :
    iprop(records P K ∗ pre c r s ∗ A P r s c ∗ ow c O₀)
      ⊢ iprop(((run c r s ∗ Kp P r s c ∗ ow c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (accM offS sz inbS) (.remote (Dev.tc n : Thread nD τ) (winM offD sz inbD) (.dma qs) hsc) (.dma qr) hsrc hdst hsem) k) Q) := by
  unfold A Kp
  iintro ⟨#HR, Hp, Ha, HO⟩ Hk
  ihave Ha := (accP_split c r s (part P s.val c)).1 $$ Ha
  icases Ha with ⟨Hkept, Hsent⟩
  iapply (send_rs P K r s c n qs qr hn hqs hqr hS hD hsz O O₀ hO) $$ [Hp Hsent HO]
  · isplitr; · iexact HR
    isplitl [Hp]; · iexact Hp
    isplitl [Hsent] <;> iassumption
  iintro ⟨Hr, HO⟩
  iapply Hk
  isplitl [Hr]; · iexact Hr
  isplitl [Hkept] <;> iassumption

end Down

section Land

variable {off offW sz : Fin 2 → ℕ} {inb : ∀ a, off a + sz a ≤ SB.size a} {inbW : ∀ a, offW a + sz a ≤ SB.size a}
variable {sp₁ sp₂ sp₃ sp₄ : Space} {s₁ s₂ s₃ s₄ : Shape} {e₁ e₂ e₃ e₄ : EltTy}

/-- Both waits of the reducing exchange and the addition. -/
theorem end_rs (r s : Fin 3) (c : Dev nD) (qs qr : DmaSem sig) (hqs : qs = sendS r (ph s)) (hqr : qr = recvS r (ph s))
    (hS : off = ![kept r s c, cl r]) (hW : offW = ![wrow s, cl r]) (hsz : sz = ![half s, cw r])
    (pay : Vec F ⟨2, sz⟩ .bf16 → Vec F ⟨2, sz⟩ .bf16 → Vec F ⟨2, sz⟩ .bf16) (hpay : ∀ v w x, pay v w x = FloatOps.addf (v x) (w x))
    (X : sProp 𝕄) (hX : A' P r s c = X) (O : CellTallies nD τ sig Unit) (hO₀ : Above 0 O) (hO : Above (2 + pos r (ph s)) O)
    {src : Memref sig .tc sp₁ s₁ e₁} {dst : Memref sig .tc sp₂ s₂ e₂} (hN : dst.view.dmaCredit = amt r (ph s))
    {src' : Memref sig .tc sp₃ s₃ e₃} {dst' : Memref sig .tc sp₄ s₄ e₄} (hN' : dst'.view.dmaCredit = amt r (ph s))
    {hsrc : src.view.WordExact} {hdst : dst.view.WordExact} {hsrc' : src'.view.WordExact} {hdst' : dst'.view.WordExact}
    {hl hl' : (Memref.whole cc0_scratch0 : Memref sig .tc .vmem S256x1024 .bf16).view.LoadsAt (Rect.unit (s := S256x1024) off sz inb).toLoadRect}
    {hlw : (Memref.whole cc0_scratch1 : Memref sig .tc .vmem S256x1024 .bf16).view.LoadsAt (Rect.unit (s := S256x1024) offW sz inbW).toLoadRect}
    {hx : ((Memref.whole cc0_scratch0 : Memref sig .tc .vmem S256x1024 .bf16).access (Rect.unit (s := S256x1024) off sz inb)).Stores Finset.univ}
    {hm : (Finset.univ : Finset (⟨2, sz⟩ : Shape).Idx) = Finset.univ ∨ ∀ a, (Rect.unit (s := S256x1024) off sz inb).stride a = 1}
    {α : Type} {Q : α → sProp 𝕄} {k : PUnit → Prog (TpuEff nD τ sig (Elt F) Λ₀ .tc) α} :
    iprop(records P K ∗ levAts L lv ∗ run c r s ∗ Kp P r s c ∗ ow c O)
      ⊢ iprop(((mid c r s ∗ X ∗ ow c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 qs src dst hsrc hdst) fun _ => .op (.waitDma2 qr src' dst' hsrc' hdst') fun _ =>
                .op (.load (Memref.whole cc0_scratch0 : Memref sig .tc .vmem S256x1024 .bf16) (Rect.unit (s := S256x1024) off sz inb).toLoadRect hl) fun v =>
                .op (.load (Memref.whole cc0_scratch1 : Memref sig .tc .vmem S256x1024 .bf16) (Rect.unit (s := S256x1024) offW sz inbW).toLoadRect hlw) fun w =>
                .op (.load (Memref.whole cc0_scratch0 : Memref sig .tc .vmem S256x1024 .bf16) (Rect.unit (s := S256x1024) off sz inb).toLoadRect hl') fun _ =>
                .op (.store (Memref.whole cc0_scratch0 : Memref sig .tc .vmem S256x1024 .bf16) (Rect.unit (s := S256x1024) off sz inb) (pay v w) Finset.univ hx hm) k) Q) := by
  subst hX
  unfold run Kp mid closed A'
  iintro ⟨#HR, #Hlev, ⟨⟨Hc, HoS, HoR⟩, Hup⟩, Ha, HO⟩ Hk
  iapply (wait_send P K r (ph s) c qs hqs O hO₀ hN) $$ [Hc HoS HO]
  · isplitr; · iexact HR
    isplitr; · iexact Hlev
    isplitl [HoS]; · iexact HoS
    isplitl [Hc] <;> iassumption
  iintro ⟨HO, HzS, -⟩
  iapply (wait_recv P K r (ph s) c qr hqr O hO hN') $$ [HoR HO]
  · isplitr; · iexact HR
    isplitr; · iexact Hlev
    isplitl [HoR] <;> iassumption
  iintro ⟨HO, HzR, Hpay⟩
  ihave Hpay := (Entails.of_eq (recvPay_ph P c r s)) $$ Hpay
  icases Hpay with ⟨Hw, Hp⟩
  iapply (add_landed P r s c hS hW hsz pay hpay) $$ [Ha Hw]
  · isplitl [Ha] <;> iassumption
  iintro ⟨Ha, Hw⟩
  iapply Hk
  isplitr [Ha HO]
  · isplitl [HzS HzR Hw]
    · isplitl [HzS HzR]
      · isplitl [HzS] <;> iassumption
      · iexact Hw
    isplitl [Hp] <;> iassumption
  isplitl [Ha] <;> iassumption

end Land

section Up

variable {off sz : Fin 2 → ℕ} {inb : ∀ a, off a + sz a ≤ SB.size a}

/-- The finished kept rows leave for the partner. -/
theorem go_ag (r s : Fin 3) (c n : Dev nD) (qs qr : DmaSem sig) (hn : n = peer (dir r s) c) (hqs : qs = sendS r (ag s)) (hqr : qr = recvS r (ag s))
    (hS : off = ![kept r s c, cl r]) (hsz : sz = ![half s, cw r])
    {hsc : (accM off sz inb : Memref sig (Dev.tc n : Thread nD τ).2.kind .vmem ⟨2, sz⟩ .bf16).view.ref.isScScratch = false}
    {hsrc : (accM off sz inb).view.WordExact} {hdst : (accM off sz inb).view.WordExact}
    {hsem : DmaTarget.Typed .vmem (.dma qr) (.remote (Dev.tc n : Thread nD τ) (accM off sz inb) (.dma qs) hsc)}
    {α : Type} {Q : α → sProp 𝕄} {k : PUnit → Prog (TpuEff nD τ sig (Elt F) Λ₀ .tc) α} (O O₀ : CellTallies nD τ sig Unit) (hO : O₀ = O + owe c r (ag s)) :
    iprop(records P K ∗ mid c r s ∗ Fn P r s c ∗ ow c O₀)
      ⊢ iprop(((back c r s ∗ ow c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (accM off sz inb) (.remote (Dev.tc n : Thread nD τ) (accM off sz inb) (.dma qs) hsc) (.dma qr) hsrc hdst hsem) k) Q) := by
  unfold mid upPart Fn back
  subst hO
  iintro ⟨#HR, ⟨Hcl, Hp, ⟨Hu, HoS, HoR⟩⟩, Ha, HO⟩ Hk
  iapply (start_ag P K r s c n qs qr hn hqs hqr hS hsz O) $$ [Hu Ha Hp HO]
  · isplitr; · iexact HR
    isplitl [Hu]; · iexact Hu
    isplitl [Ha]; · iexact Ha
    isplitl [Hp] <;> iassumption
  iintro ⟨Hc, HO⟩
  iapply Hk
  isplitr [HO]
  · isplitl [Hcl]; · iexact Hcl
    isplitl [Hc]; · iexact Hc
    isplitl [HoS] <;> iassumption
  iexact HO

variable {sp₁ sp₂ : Space} {s₁ s₂ : Shape} {e₁ e₂ : EltTy}

/-- They have left: they are the device's own again. -/
theorem end_ag_send (r s : Fin 3) (c : Dev nD) (q : DmaSem sig) (hq : q = sendS r (ag s)) (O : CellTallies nD τ sig Unit) (hO : Above 0 O)
    {src : Memref sig .tc sp₁ s₁ e₁} {dst : Memref sig .tc sp₂ s₂ e₂} (hN : dst.view.dmaCredit = amt r (ag s))
    {hsrc : src.view.WordExact} {hdst : dst.view.WordExact}
    {α : Type} {Q : α → sProp 𝕄} {k : PUnit → Prog (TpuEff nD τ sig (Elt F) Λ₀ .tc) α} :
    iprop(records P K ∗ levAts L lv ∗ back c r s ∗ ow c O)
      ⊢ iprop(((left c r s ∗ Fn P r s c ∗ ow c O) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  unfold back left Fn
  iintro ⟨#HR, #Hlev, ⟨Hcl, Hc, HoS, HoR⟩, HO⟩ Hk
  iapply (wait_send P K r (ag s) c q hq O hO hN) $$ [Hc HoS HO]
  · isplitr; · iexact HR
    isplitr; · iexact Hlev
    isplitl [HoS]; · iexact HoS
    isplitl [Hc] <;> iassumption
  iintro ⟨HO, HzS, Hpay⟩
  ihave Hpay := (Entails.of_eq (sendPay_ag P c r s)) $$ Hpay
  iapply Hk
  isplitr [Hpay HO]
  · isplitl [Hcl]; · iexact Hcl
    isplitl [HzS] <;> iassumption
  isplitl [Hpay] <;> iassumption

/-- The partner's finished rows have landed: all rows held at this stage are finished. -/
theorem end_ag_recv (r s : Fin 3) (c : Dev nD) (q : DmaSem sig) (hq : q = recvS r (ag s)) (O : CellTallies nD τ sig Unit) (hO : Above (2 + pos r (ag s)) O)
    {src : Memref sig .tc sp₁ s₁ e₁} {dst : Memref sig .tc sp₂ s₂ e₂} (hN : dst.view.dmaCredit = amt r (ag s))
    {hsrc : src.view.WordExact} {hdst : dst.view.WordExact}
    {α : Type} {Q : α → sProp 𝕄} {k : PUnit → Prog (TpuEff nD τ sig (Elt F) Λ₀ .tc) α} :
    iprop(records P K ∗ levAts L lv ∗ left c r s ∗ Fn P r s c ∗ ow c O)
      ⊢ iprop(((done c r s ∗ Fh P r s c ∗ ow c O) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  unfold left done Fn Fh
  iintro ⟨#HR, #Hlev, ⟨Hcl, HzS, HoR⟩, Ha, HO⟩ Hk
  iapply (wait_recv P K r (ag s) c q hq O hO hN) $$ [HoR HO]
  · isplitr; · iexact HR
    isplitr; · iexact Hlev
    isplitl [HoR] <;> iassumption
  iintro ⟨HO, HzR, Hpay⟩
  ihave Hpay := (Entails.of_eq (recvPay_ag P c r s)) $$ Hpay
  iapply Hk
  isplitr [Ha Hpay HO]
  · isplitl [Hcl]; · iexact Hcl
    isplitl [HzS] <;> iassumption
  isplitl [Ha Hpay]
  · iapply (accP_split c r s (fin P)).2
    isplitl [Ha] <;> iassumption
  iexact HO

variable {sp₃ sp₄ : Space} {s₃ s₄ : Shape} {e₃ e₄ : EltTy}

/-- Both waits of the copying exchange. -/
theorem end_ag (r s : Fin 3) (c : Dev nD) (qs qr : DmaSem sig) (hqs : qs = sendS r (ag s)) (hqr : qr = recvS r (ag s))
    (X : sProp 𝕄) (hX : Fh P r s c = X)
    (O : CellTallies nD τ sig Unit) (hO₀ : Above 0 O) (hO : Above (2 + pos r (ag s)) O)
    {src : Memref sig .tc sp₁ s₁ e₁} {dst : Memref sig .tc sp₂ s₂ e₂} (hN : dst.view.dmaCredit = amt r (ag s))
    {src' : Memref sig .tc sp₃ s₃ e₃} {dst' : Memref sig .tc sp₄ s₄ e₄} (hN' : dst'.view.dmaCredit = amt r (ag s))
    {hsrc : src.view.WordExact} {hdst : dst.view.WordExact} {hsrc' : src'.view.WordExact} {hdst' : dst'.view.WordExact}
    {α : Type} {Q : α → sProp 𝕄} {k : PUnit → Prog (TpuEff nD τ sig (Elt F) Λ₀ .tc) α} :
    iprop(records P K ∗ levAts L lv ∗ back c r s ∗ ow c O)
      ⊢ iprop(((done c r s ∗ X ∗ ow c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 qs src dst hsrc hdst) fun _ => .op (.waitDma2 qr src' dst' hsrc' hdst') k) Q) := by
  subst hX
  iintro ⟨#HR, #Hlev, Hb, HO⟩ Hk
  iapply (end_ag_send P K r s c qs hqs O hO₀ hN) $$ [Hb HO]
  · isplitr; · iexact HR
    isplitr; · iexact Hlev
    isplitl [Hb] <;> iassumption
  iintro ⟨Hl, Ha, HO⟩
  iapply (end_ag_recv P K r s c qr hqr O hO hN') $$ [Hl Ha HO]
  · isplitr; · iexact HR
    isplitr; · iexact Hlev
    isplitl [Hl]; · iexact Hl
    isplitl [Ha] <;> iassumption
  iexact Hk

end Up

end Cert.KernelIdeal.Body

end
-- ==== Proof.Parts.lean ====
/-
# The parts of the kernel that exchange

The kernel's program is printed in parts. Each lemma here runs one of them: what it needs of the rails and exchanges, and what it
leaves. Parts 11 to 15 reduce, parts 16 to 18 turn around, parts 19 to 23 copy back.
-/
module

public import proofs.«01_k».proof.Proof.Rail
public import Idealize.ShloMosaic.Lib.Pipeline.Value

@[expose] public section

noncomputable section

namespace Cert.KernelIdeal.Body

open Cert.KernelIdeal Cert.KernelIdeal.Gen Cert.Butterfly

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (P : Dev nD → Cont F) (K : Dev nD × Kx → ℕ)

/-! ## The stored sums, elementwise -/

theorem pay31_add (v w : Vec F S128x384 .bf16) (x) : k0_pay31 v w x = FloatOps.addf (v x) (w x) := by
  unfold k0_pay31; rw [shapeCast_self]; rfl
theorem pay32_add (v w : Vec F S128x384 .bf16) (x) : k0_pay32 v w x = FloatOps.addf (v x) (w x) := by
  unfold k0_pay32; rw [shapeCast_self]; rfl
theorem pay33_add (v w : Vec F S128x256 .bf16) (x) : k0_pay33 v w x = FloatOps.addf (v x) (w x) := by
  unfold k0_pay33; rw [shapeCast_self]; rfl
theorem pay34_add (v w : Vec F S64x384 .bf16) (x) : k0_pay34 v w x = FloatOps.addf (v x) (w x) := by
  unfold k0_pay34; rw [shapeCast_self]; rfl
theorem pay35_add (v w : Vec F S64x384 .bf16) (x) : k0_pay35 v w x = FloatOps.addf (v x) (w x) := by
  unfold k0_pay35; rw [shapeCast_self]; rfl
theorem pay36_add (v w : Vec F S64x256 .bf16) (x) : k0_pay36 v w x = FloatOps.addf (v x) (w x) := by
  unfold k0_pay36; rw [shapeCast_self]; rfl
theorem pay37_add (v w : Vec F S32x384 .bf16) (x) : k0_pay37 v w x = FloatOps.addf (v x) (w x) := by
  unfold k0_pay37; rw [shapeCast_self]; rfl
theorem pay38_add (v w : Vec F S32x384 .bf16) (x) : k0_pay38 v w x = FloatOps.addf (v x) (w x) := by
  unfold k0_pay38; rw [shapeCast_self]; rfl
theorem pay39_add (v w : Vec F S32x256 .bf16) (x) : k0_pay39 v w x = FloatOps.addf (v x) (w x) := by
  unfold k0_pay39; rw [shapeCast_self]; rfl

/-! ## The parts -/

/-- Rail 0 starts its second stage; rail 1 ends its first. -/
theorem part11_run (c : Dev nD) (v2 v33 : BitVec 32) (Q : PUnit → sProp 𝕄) :
    iprop(records P K ∗ levAts L lv ∗ pre c 0 1 ∗ A P 0 1 c ∗ run c 1 0 ∗ Kp P 1 0 c ∗ ow c (oweN c 15))
      ⊢ iprop(((run c 0 1 ∗ Kp P 0 1 c ∗ mid c 1 0 ∗ A P 1 1 c ∗ ow c (oweN c 14)) -∗ Q ⟨⟩)
        -∗ wp frame (wpE (defs₀ (F := F)) 𝒱₀ (c : Thread nD τ) none) Set.univ
          (k0_part11 (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 c v2 v33) Q) := by
  rw [k0_part11_eq_skeleton]; unfold k0_part11_skel
  simp only [Prog.lift, Prog.bind_op, Prog.bind_ret, Prog.pure_eq_ret]
  iintro ⟨#HR, #Hlev, H01, X0, H10, X1, HO⟩ Hk
  iapply (go_rs P K 0 1 c _ _ _ (Fin.ext (off9_eq c).2) rfl rfl (off9_eq c).1 rfl rfl (oweN c 14) (oweN c 15) rfl) $$ [H01 X0 HO]
  · isplitr; · iexact HR
    isplitl [H01]; · iexact H01
    isplitl [X0] <;> iassumption
  iintro ⟨H01, X0, HO⟩
  iapply (end_rs P K 1 0 c _ _ rfl rfl (off11_eq c) rfl rfl k0_pay32 pay32_add _ (next01 P 1 c) (oweN c 14)
    (above_oweN c 14 (by decide) (by decide)) (above_oweN c 14 (by decide) (by decide)) rfl rfl) $$ [H10 X1 HO]
  · isplitr; · iexact HR
    isplitr; · iexact Hlev
    isplitl [H10]; · iexact H10
    isplitl [X1] <;> iassumption
  iintro ⟨H10, X1, HO⟩
  rw [wp_ret]; imodintro
  iapply Hk
  isplitl [H01]; · iexact H01
  isplitl [X0]; · iexact X0
  isplitl [H10]; · iexact H10
  isplitl [X1]; · iexact X1
  iexact HO

/-- Rail 1 starts its second stage; rail 2 ends its first. -/
theorem part12_run (c : Dev nD) (v2 v46 : BitVec 32) (Q : PUnit → sProp 𝕄) :
    iprop(records P K ∗ levAts L lv ∗ pre c 1 1 ∗ A P 1 1 c ∗ run c 2 0 ∗ Kp P 2 0 c ∗ ow c (oweN c 14))
      ⊢ iprop(((run c 1 1 ∗ Kp P 1 1 c ∗ mid c 2 0 ∗ A P 2 1 c ∗ ow c (oweN c 13)) -∗ Q ⟨⟩)
        -∗ wp frame (wpE (defs₀ (F := F)) 𝒱₀ (c : Thread nD τ) none) Set.univ
          (k0_part12 (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 c v2 v46) Q) := by
  rw [k0_part12_eq_skeleton]; unfold k0_part12_skel
  simp only [Prog.lift, Prog.bind_op, Prog.bind_ret, Prog.pure_eq_ret]
  iintro ⟨#HR, #Hlev, H11, X1, H20, X2, HO⟩ Hk
  iapply (go_rs P K 1 1 c _ _ _ (Fin.ext (off12_eq c).2) rfl rfl (off12_eq c).1 rfl rfl (oweN c 13) (oweN c 14) rfl) $$ [H11 X1 HO]
  · isplitr; · iexact HR
    isplitl [H11]; · iexact H11
    isplitl [X1] <;> iassumption
  iintro ⟨H11, X1, HO⟩
  iapply (end_rs P K 2 0 c _ _ rfl rfl (off14_eq c) rfl rfl k0_pay33 pay33_add _ (next01 P 2 c) (oweN c 13)
    (above_oweN c 13 (by decide) (by decide)) (above_oweN c 13 (by decide) (by decide)) rfl rfl) $$ [H20 X2 HO]
  · isplitr; · iexact HR
    isplitr; · iexact Hlev
    isplitl [H20]; · iexact H20
    isplitl [X2] <;> iassumption
  iintro ⟨H20, X2, HO⟩
  rw [wp_ret]; imodintro
  iapply Hk
  isplitl [H11]; · iexact H11
  isplitl [X1]; · iexact X1
  isplitl [H20]; · iexact H20
  isplitl [X2]; · iexact X2
  iexact HO

/-- Rail 2 starts its second stage; rail 0 ends its own. -/
theorem part13_run (c : Dev nD) (v2 v22 : BitVec 32) (Q : PUnit → sProp 𝕄) :
    iprop(records P K ∗ levAts L lv ∗ pre c 2 1 ∗ A P 2 1 c ∗ run c 0 1 ∗ Kp P 0 1 c ∗ ow c (oweN c 13))
      ⊢ iprop(((run c 2 1 ∗ Kp P 2 1 c ∗ mid c 0 1 ∗ A P 0 2 c ∗ ow c (oweN c 12)) -∗ Q ⟨⟩)
        -∗ wp frame (wpE (defs₀ (F := F)) 𝒱₀ (c : Thread nD τ) none) Set.univ
          (k0_part13 (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 c v2 v22) Q) := by
  rw [k0_part13_eq_skeleton]; unfold k0_part13_skel
  simp only [Prog.lift, Prog.bind_op, Prog.bind_ret, Prog.pure_eq_ret]
  iintro ⟨#HR, #Hlev, H21, X2, H01, X0, HO⟩ Hk
  iapply (go_rs P K 2 1 c _ _ _ (Fin.ext (off15_eq c).2) rfl rfl (off15_eq c).1 rfl rfl (oweN c 12) (oweN c 13) rfl) $$ [H21 X2 HO]
  · isplitr; · iexact HR
    isplitl [H21]; · iexact H21
    isplitl [X2] <;> iassumption
  iintro ⟨H21, X2, HO⟩
  iapply (end_rs P K 0 1 c _ _ rfl rfl (off16_eq c) rfl rfl k0_pay34 pay34_add _ (next12 P 0 c) (oweN c 12)
    (above_oweN c 12 (by decide) (by decide)) (above_oweN c 12 (by decide) (by decide)) rfl rfl) $$ [H01 X0 HO]
  · isplitr; · iexact HR
    isplitr; · iexact Hlev
    isplitl [H01]; · iexact H01
    isplitl [X0] <;> iassumption
  iintro ⟨H01, X0, HO⟩
  rw [wp_ret]; imodintro
  iapply Hk
  isplitl [H21]; · iexact H21
  isplitl [X2]; · iexact X2
  isplitl [H01]; · iexact H01
  isplitl [X0]; · iexact X0
  iexact HO

/-- Rail 0 starts its third stage; rail 1 ends its second. -/
theorem part14_run (c : Dev nD) (v2 v35 : BitVec 32) (Q : PUnit → sProp 𝕄) :
    iprop(records P K ∗ levAts L lv ∗ pre c 0 2 ∗ A P 0 2 c ∗ run c 1 1 ∗ Kp P 1 1 c ∗ ow c (oweN c 12))
      ⊢ iprop(((run c 0 2 ∗ Kp P 0 2 c ∗ mid c 1 1 ∗ A P 1 2 c ∗ ow c (oweN c 11)) -∗ Q ⟨⟩)
        -∗ wp frame (wpE (defs₀ (F := F)) 𝒱₀ (c : Thread nD τ) none) Set.univ
          (k0_part14 (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 c v2 v35) Q) := by
  rw [k0_part14_eq_skeleton]; unfold k0_part14_skel
  simp only [Prog.lift, Prog.bind_op, Prog.bind_ret, Prog.pure_eq_ret]
  iintro ⟨#HR, #Hlev, H02, X0, H11, X1, HO⟩ Hk
  iapply (go_rs P K 0 2 c _ _ _ (Fin.ext (off17_eq c).2) rfl rfl (off17_eq c).1 rfl rfl (oweN c 11) (oweN c 12) rfl) $$ [H02 X0 HO]
  · isplitr; · iexact HR
    isplitl [H02]; · iexact H02
    isplitl [X0] <;> iassumption
  iintro ⟨H02, X0, HO⟩
  iapply (end_rs P K 1 1 c _ _ rfl rfl (off18_eq c) rfl rfl k0_pay35 pay35_add _ (next12 P 1 c) (oweN c 11)
    (above_oweN c 11 (by decide) (by decide)) (above_oweN c 11 (by decide) (by decide)) rfl rfl) $$ [H11 X1 HO]
  · isplitr; · iexact HR
    isplitr; · iexact Hlev
    isplitl [H11]; · iexact H11
    isplitl [X1] <;> iassumption
  iintro ⟨H11, X1, HO⟩
  rw [wp_ret]; imodintro
  iapply Hk
  isplitl [H02]; · iexact H02
  isplitl [X0]; · iexact X0
  isplitl [H11]; · iexact H11
  isplitl [X1]; · iexact X1
  iexact HO

/-- Rail 1 starts its third stage; rail 2 ends its second and starts its third. -/
theorem part15_run (c : Dev nD) (v2 v48 : BitVec 32) (Q : BitVec 32 → sProp 𝕄) :
    iprop(records P K ∗ levAts L lv ∗ pre c 1 2 ∗ A P 1 2 c ∗ run c 2 1 ∗ Kp P 2 1 c ∗ pre c 2 2 ∗ ow c (oweN c 11))
      ⊢ iprop(((run c 1 2 ∗ Kp P 1 2 c ∗ mid c 2 1 ∗ Kp P 2 2 c ∗ run c 2 2 ∗ ow c (oweN c 9)) -∗ Q 4#32)
        -∗ wp frame (wpE (defs₀ (F := F)) 𝒱₀ (c : Thread nD τ) none) Set.univ
          (k0_part15 (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 c v2 v48) Q) := by
  rw [k0_part15_eq_skeleton]; unfold k0_part15_skel
  simp only [Prog.lift, Prog.bind_op, Prog.bind_ret, Prog.pure_eq_ret]
  iintro ⟨#HR, #Hlev, H12, X1, H21, X2, H22, HO⟩ Hk
  iapply (go_rs P K 1 2 c _ _ _ (Fin.ext (off19_eq c).2) rfl rfl (off19_eq c).1 rfl rfl (oweN c 10) (oweN c 11) rfl) $$ [H12 X1 HO]
  · isplitr; · iexact HR
    isplitl [H12]; · iexact H12
    isplitl [X1] <;> iassumption
  iintro ⟨H12, X1, HO⟩
  iapply (end_rs P K 2 1 c _ _ rfl rfl (off20_eq c) rfl rfl k0_pay36 pay36_add _ (next12 P 2 c) (oweN c 10)
    (above_oweN c 10 (by decide) (by decide)) (above_oweN c 10 (by decide) (by decide)) rfl rfl) $$ [H21 X2 HO]
  · isplitr; · iexact HR
    isplitr; · iexact Hlev
    isplitl [H21]; · iexact H21
    isplitl [X2] <;> iassumption
  iintro ⟨H21, X2, HO⟩
  iapply (go_rs P K 2 2 c _ _ _ (Fin.ext (off21_eq c).2) rfl rfl (off21_eq c).1 rfl rfl (oweN c 9) (oweN c 10) rfl) $$ [H22 X2 HO]
  · isplitr; · iexact HR
    isplitl [H22]; · iexact H22
    isplitl [X2] <;> iassumption
  iintro ⟨H22, X2, HO⟩
  rw [wp_ret]; imodintro
  iapply Hk
  isplitl [H12]; · iexact H12
  isplitl [X1]; · iexact X1
  isplitl [H21]; · iexact H21
  isplitl [X2]; · iexact X2
  isplitl [H22]; · iexact H22
  iexact HO

/-- Rail 0 ends the reduction and turns around. -/
theorem part16_run (c : Dev nD) (v2 v24 v : BitVec 32) (Q : BitVec 32 → sProp 𝕄) :
    iprop(records P K ∗ levAts L lv ∗ run c 0 2 ∗ Kp P 0 2 c ∗ ow c (oweN c 9))
      ⊢ iprop((∀ x, (back c 0 2 ∗ ow c (oweN c 8)) -∗ Q x)
        -∗ wp frame (wpE (defs₀ (F := F)) 𝒱₀ (c : Thread nD τ) none) Set.univ
          (k0_part16 (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 c v2 v24 v) Q) := by
  rw [k0_part16_eq_skeleton]; unfold k0_part16_skel
  simp only [Prog.lift, Prog.bind_op, Prog.bind_ret, Prog.pure_eq_ret]
  iintro ⟨#HR, #Hlev, H02, X0, HO⟩ Hk
  iapply (end_rs P K 0 2 c _ _ rfl rfl (off22_eq c) rfl rfl k0_pay37 pay37_add _ (next2 P 0 c) (oweN c 9)
    (above_oweN c 9 (by decide) (by decide)) (above_oweN c 9 (by decide) (by decide)) rfl rfl) $$ [H02 X0 HO]
  · isplitr; · iexact HR
    isplitr; · iexact Hlev
    isplitl [H02]; · iexact H02
    isplitl [X0] <;> iassumption
  iintro ⟨H02, X0, HO⟩
  iapply (go_ag P K 0 2 c _ _ _ (Fin.ext (off23_eq c).2) rfl rfl (off23_eq c).1 rfl (oweN c 8) (oweN c 9) rfl) $$ [H02 X0 HO]
  · isplitr; · iexact HR
    isplitl [H02]; · iexact H02
    isplitl [X0] <;> iassumption
  iintro ⟨H02, HO⟩
  rw [wp_ret]; imodintro
  iapply Hk
  isplitl [H02]; · iexact H02
  iexact HO

/-- Rail 1 does. -/
theorem part17_run (c : Dev nD) (v2 v37 v : BitVec 32) (Q : BitVec 32 → sProp 𝕄) :
    iprop(records P K ∗ levAts L lv ∗ run c 1 2 ∗ Kp P 1 2 c ∗ ow c (oweN c 8))
      ⊢ iprop((∀ x, (back c 1 2 ∗ ow c (oweN c 7)) -∗ Q x)
        -∗ wp frame (wpE (defs₀ (F := F)) 𝒱₀ (c : Thread nD τ) none) Set.univ
          (k0_part17 (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 c v2 v37 v) Q) := by
  rw [k0_part17_eq_skeleton]; unfold k0_part17_skel
  simp only [Prog.lift, Prog.bind_op, Prog.bind_ret, Prog.pure_eq_ret]
  iintro ⟨#HR, #Hlev, H12, X1, HO⟩ Hk
  iapply (end_rs P K 1 2 c _ _ rfl rfl (off24_eq c) rfl rfl k0_pay38 pay38_add _ (next2 P 1 c) (oweN c 8)
    (above_oweN c 8 (by decide) (by decide)) (above_oweN c 8 (by decide) (by decide)) rfl rfl) $$ [H12 X1 HO]
  · isplitr; · iexact HR
    isplitr; · iexact Hlev
    isplitl [H12]; · iexact H12
    isplitl [X1] <;> iassumption
  iintro ⟨H12, X1, HO⟩
  iapply (go_ag P K 1 2 c _ _ _ (Fin.ext (off25_eq c).2) rfl rfl (off25_eq c).1 rfl (oweN c 7) (oweN c 8) rfl) $$ [H12 X1 HO]
  · isplitr; · iexact HR
    isplitl [H12]; · iexact H12
    isplitl [X1] <;> iassumption
  iintro ⟨H12, HO⟩
  rw [wp_ret]; imodintro
  iapply Hk
  isplitl [H12]; · iexact H12
  iexact HO

/-- Rail 2 does. -/
theorem part18_run (c : Dev nD) (v2 v50 v : BitVec 32) (Q : BitVec 32 → sProp 𝕄) :
    iprop(records P K ∗ levAts L lv ∗ run c 2 2 ∗ Kp P 2 2 c ∗ ow c (oweN c 7))
      ⊢ iprop((∀ x, (back c 2 2 ∗ ow c (oweN c 6)) -∗ Q x)
        -∗ wp frame (wpE (defs₀ (F := F)) 𝒱₀ (c : Thread nD τ) none) Set.univ
          (k0_part18 (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 c v2 v50 v) Q) := by
  rw [k0_part18_eq_skeleton]; unfold k0_part18_skel
  simp only [Prog.lift, Prog.bind_op, Prog.bind_ret, Prog.pure_eq_ret]
  iintro ⟨#HR, #Hlev, H22, X2, HO⟩ Hk
  iapply (end_rs P K 2 2 c _ _ rfl rfl (off26_eq c) rfl rfl k0_pay39 pay39_add _ (next2 P 2 c) (oweN c 7)
    (above_oweN c 7 (by decide) (by decide)) (above_oweN c 7 (by decide) (by decide)) rfl rfl) $$ [H22 X2 HO]
  · isplitr; · iexact HR
    isplitr; · iexact Hlev
    isplitl [H22]; · iexact H22
    isplitl [X2] <;> iassumption
  iintro ⟨H22, X2, HO⟩
  iapply (go_ag P K 2 2 c _ _ _ (Fin.ext (off27_eq c).2) rfl rfl (off27_eq c).1 rfl (oweN c 6) (oweN c 7) rfl) $$ [H22 X2 HO]
  · isplitr; · iexact HR
    isplitl [H22]; · iexact H22
    isplitl [X2] <;> iassumption
  iintro ⟨H22, HO⟩
  rw [wp_ret]; imodintro
  iapply Hk
  isplitl [H22]; · iexact H22
  iexact HO

/-- Rail 0 goes one stage up; rail 1's rows are back. -/
theorem part19_run (c : Dev nD) (v2 v : BitVec 32) (Q : BitVec 32 → sProp 𝕄) :
    iprop(records P K ∗ levAts L lv ∗ back c 0 2 ∗ mid c 0 1 ∗ back c 1 2 ∗ ow c (oweN c 6))
      ⊢ iprop((∀ x, (done c 0 2 ∗ back c 0 1 ∗ done c 1 2 ∗ Fn P 1 1 c ∗ ow c (oweN c 5)) -∗ Q x)
        -∗ wp frame (wpE (defs₀ (F := F)) 𝒱₀ (c : Thread nD τ) none) Set.univ
          (k0_part19 (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 c v2 v) Q) := by
  rw [k0_part19_eq_skeleton]; unfold k0_part19_skel
  simp only [Prog.lift, Prog.bind_op, Prog.bind_ret, Prog.pure_eq_ret]
  iintro ⟨#HR, #Hlev, H02, H01, H12, HO⟩ Hk
  iapply (end_ag P K 0 2 c _ _ rfl rfl _ (up2 P 0 c) (oweN c 6)
    (above_oweN c 6 (by decide) (by decide)) (above_oweN c 6 (by decide) (by decide)) rfl rfl) $$ [H02 HO]
  · isplitr; · iexact HR
    isplitr; · iexact Hlev
    isplitl [H02] <;> iassumption
  iintro ⟨H02, X0, HO⟩
  iapply (go_ag P K 0 1 c _ _ _ (Fin.ext (off28_eq c).2) rfl rfl (off28_eq c).1 rfl (oweN c 5) (oweN c 6) rfl) $$ [H01 X0 HO]
  · isplitr; · iexact HR
    isplitl [H01]; · iexact H01
    isplitl [X0] <;> iassumption
  iintro ⟨H01, HO⟩
  iapply (end_ag P K 1 2 c _ _ rfl rfl _ (up2 P 1 c) (oweN c 5)
    (above_oweN c 5 (by decide) (by decide)) (above_oweN c 5 (by decide) (by decide)) rfl rfl) $$ [H12 HO]
  · isplitr; · iexact HR
    isplitr; · iexact Hlev
    isplitl [H12] <;> iassumption
  iintro ⟨H12, X1, HO⟩
  rw [wp_ret]; imodintro
  iapply Hk
  isplitl [H02]; · iexact H02
  isplitl [H01]; · iexact H01
  isplitl [H12]; · iexact H12
  isplitl [X1]; · iexact X1
  iexact HO

/-- Rails 1 and 2 go one stage up. -/
theorem part20_run (c : Dev nD) (v2 v : BitVec 32) (Q : BitVec 32 → sProp 𝕄) :
    iprop(records P K ∗ levAts L lv ∗ mid c 1 1 ∗ Fn P 1 1 c ∗ back c 2 2 ∗ mid c 2 1 ∗ ow c (oweN c 5))
      ⊢ iprop((∀ x, (back c 1 1 ∗ done c 2 2 ∗ back c 2 1 ∗ ow c (oweN c 3)) -∗ Q x)
        -∗ wp frame (wpE (defs₀ (F := F)) 𝒱₀ (c : Thread nD τ) none) Set.univ
          (k0_part20 (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 c v2 v) Q) := by
  rw [k0_part20_eq_skeleton]; unfold k0_part20_skel
  simp only [Prog.lift, Prog.bind_op, Prog.bind_ret, Prog.pure_eq_ret]
  iintro ⟨#HR, #Hlev, H11, X1, H22, H21, HO⟩ Hk
  iapply (go_ag P K 1 1 c _ _ _ (Fin.ext (off29_eq c).2) rfl rfl (off29_eq c).1 rfl (oweN c 4) (oweN c 5) rfl) $$ [H11 X1 HO]
  · isplitr; · iexact HR
    isplitl [H11]; · iexact H11
    isplitl [X1] <;> iassumption
  iintro ⟨H11, HO⟩
  iapply (end_ag P K 2 2 c _ _ rfl rfl _ (up2 P 2 c) (oweN c 4)
    (above_oweN c 4 (by decide) (by decide)) (above_oweN c 4 (by decide) (by decide)) rfl rfl) $$ [H22 HO]
  · isplitr; · iexact HR
    isplitr; · iexact Hlev
    isplitl [H22] <;> iassumption
  iintro ⟨H22, X2, HO⟩
  iapply (go_ag P K 2 1 c _ _ _ (Fin.ext (off30_eq c).2) rfl rfl (off30_eq c).1 rfl (oweN c 3) (oweN c 4) rfl) $$ [H21 X2 HO]
  · isplitr; · iexact HR
    isplitl [H21]; · iexact H21
    isplitl [X2] <;> iassumption
  iintro ⟨H21, HO⟩
  rw [wp_ret]; imodintro
  iapply Hk
  isplitl [H11]; · iexact H11
  isplitl [H22]; · iexact H22
  isplitl [H21]; · iexact H21
  iexact HO

/-- Rail 0 goes up again; rail 1's rows have left. -/
theorem part21_run (c : Dev nD) (v2 v : BitVec 32) (Q : PUnit → sProp 𝕄) :
    iprop(records P K ∗ levAts L lv ∗ back c 0 1 ∗ mid c 0 0 ∗ back c 1 1 ∗ ow c (oweN c 3))
      ⊢ iprop(((done c 0 1 ∗ back c 0 0 ∗ left c 1 1 ∗ Fn P 1 1 c ∗ ow c (oweN c 2)) -∗ Q ⟨⟩)
        -∗ wp frame (wpE (defs₀ (F := F)) 𝒱₀ (c : Thread nD τ) none) Set.univ
          (k0_part21 (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 c v2 v) Q) := by
  rw [k0_part21_eq_skeleton]; unfold k0_part21_skel
  simp only [Prog.lift, Prog.bind_op, Prog.bind_ret, Prog.pure_eq_ret]
  iintro ⟨#HR, #Hlev, H01, H00, H11, HO⟩ Hk
  iapply (end_ag P K 0 1 c _ _ rfl rfl _ (up1 P 0 c) (oweN c 3)
    (above_oweN c 3 (by decide) (by decide)) (above_oweN c 3 (by decide) (by decide)) rfl rfl) $$ [H01 HO]
  · isplitr; · iexact HR
    isplitr; · iexact Hlev
    isplitl [H01] <;> iassumption
  iintro ⟨H01, X0, HO⟩
  iapply (go_ag P K 0 0 c _ _ _ (Fin.ext (off31_eq c).2) rfl rfl (off31_eq c).1 rfl (oweN c 2) (oweN c 3) rfl) $$ [H00 X0 HO]
  · isplitr; · iexact HR
    isplitl [H00]; · iexact H00
    isplitl [X0] <;> iassumption
  iintro ⟨H00, HO⟩
  iapply (end_ag_send P K 1 1 c _ rfl (oweN c 2) (above_oweN c 2 (by decide) (by decide)) rfl) $$ [H11 HO]
  · isplitr; · iexact HR
    isplitr; · iexact Hlev
    isplitl [H11] <;> iassumption
  iintro ⟨H11, X1, HO⟩
  rw [wp_ret]; imodintro
  iapply Hk
  isplitl [H01]; · iexact H01
  isplitl [H00]; · iexact H00
  isplitl [H11]; · iexact H11
  isplitl [X1]; · iexact X1
  iexact HO

/-- Rail 1's rows are back and it goes up again; rail 2's are back. -/
theorem part22_run (c : Dev nD) (v2 : BitVec 32) (Q : PUnit → sProp 𝕄) :
    iprop(records P K ∗ levAts L lv ∗ left c 1 1 ∗ Fn P 1 1 c ∗ mid c 1 0 ∗ back c 2 1 ∗ ow c (oweN c 2))
      ⊢ iprop(((done c 1 1 ∗ back c 1 0 ∗ done c 2 1 ∗ Fn P 2 0 c ∗ ow c (oweN c 1)) -∗ Q ⟨⟩)
        -∗ wp frame (wpE (defs₀ (F := F)) 𝒱₀ (c : Thread nD τ) none) Set.univ
          (k0_part22 (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 c v2) Q) := by
  rw [k0_part22_eq_skeleton]; unfold k0_part22_skel
  simp only [Prog.lift, Prog.bind_op, Prog.bind_ret, Prog.pure_eq_ret]
  iintro ⟨#HR, #Hlev, H11, X1, H10, H21, HO⟩ Hk
  iapply (end_ag_recv P K 1 1 c _ rfl (oweN c 2) (above_oweN c 2 (by decide) (by decide)) rfl) $$ [H11 X1 HO]
  · isplitr; · iexact HR
    isplitr; · iexact Hlev
    isplitl [H11]; · iexact H11
    isplitl [X1] <;> iassumption
  iintro ⟨H11, X1, HO⟩
  ihave X1 := (Entails.of_eq (up1 P 1 c)) $$ X1
  iapply (go_ag P K 1 0 c _ _ _ (Fin.ext (off32_eq c).2) rfl rfl (off32_eq c).1 rfl (oweN c 1) (oweN c 2) rfl) $$ [H10 X1 HO]
  · isplitr; · iexact HR
    isplitl [H10]; · iexact H10
    isplitl [X1] <;> iassumption
  iintro ⟨H10, HO⟩
  iapply (end_ag P K 2 1 c _ _ rfl rfl _ (up1 P 2 c) (oweN c 1)
    (above_oweN c 1 (by decide) (by decide)) (above_oweN c 1 (by decide) (by decide)) rfl rfl) $$ [H21 HO]
  · isplitr; · iexact HR
    isplitr; · iexact Hlev
    isplitl [H21] <;> iassumption
  iintro ⟨H21, X2, HO⟩
  rw [wp_ret]; imodintro
  iapply Hk
  isplitl [H11]; · iexact H11
  isplitl [H10]; · iexact H10
  isplitl [H21]; · iexact H21
  isplitl [X2]; · iexact X2
  iexact HO

/-- Rail 2 goes up again; rails 0 and 1 are finished. -/
theorem part23_run (c : Dev nD) (v2 : BitVec 32) (Q : BitVec 32 → sProp 𝕄) :
    iprop(records P K ∗ levAts L lv ∗ mid c 2 0 ∗ Fn P 2 0 c ∗ back c 0 0 ∗ back c 1 0 ∗ ow c (oweN c 1))
      ⊢ iprop((∀ x, (back c 2 0 ∗ done c 0 0 ∗ Fh P 0 0 c ∗ done c 1 0 ∗ Fh P 1 0 c ∗ ow c (oweN c 0)) -∗ Q x)
        -∗ wp frame (wpE (defs₀ (F := F)) 𝒱₀ (c : Thread nD τ) none) Set.univ
          (k0_part23 (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 c v2) Q) := by
  rw [k0_part23_eq_skeleton]; unfold k0_part23_skel
  simp only [Prog.lift, Prog.bind_op, Prog.bind_ret, Prog.pure_eq_ret]
  iintro ⟨#HR, #Hlev, H20, X2, H00, H10, HO⟩ Hk
  iapply (go_ag P K 2 0 c _ _ _ (Fin.ext (off33_eq c).2) rfl rfl (off33_eq c).1 rfl (oweN c 0) (oweN c 1) rfl) $$ [H20 X2 HO]
  · isplitr; · iexact HR
    isplitl [H20]; · iexact H20
    isplitl [X2] <;> iassumption
  iintro ⟨H20, HO⟩
  iapply (end_ag P K 0 0 c _ _ rfl rfl _ rfl (oweN c 0)
    (above_oweN c 0 (by decide) (by decide)) (above_oweN c 0 (by decide) (by decide)) rfl rfl) $$ [H00 HO]
  · isplitr; · iexact HR
    isplitr; · iexact Hlev
    isplitl [H00] <;> iassumption
  iintro ⟨H00, X0, HO⟩
  iapply (end_ag P K 1 0 c _ _ rfl rfl _ rfl (oweN c 0)
    (above_oweN c 0 (by decide) (by decide)) (above_oweN c 0 (by decide) (by decide)) rfl rfl) $$ [H10 HO]
  · isplitr; · iexact HR
    isplitr; · iexact Hlev
    isplitl [H10] <;> iassumption
  iintro ⟨H10, X1, HO⟩
  rw [wp_ret]; imodintro
  iapply Hk
  isplitl [H20]; · iexact H20
  isplitl [H00]; · iexact H00
  isplitl [X0]; · iexact X0
  isplitl [H10]; · iexact H10
  isplitl [X1]; · iexact X1
  iexact HO

end Cert.KernelIdeal.Body

end
-- ==== Proof.Begin.lean ====
/-
# The parts of the kernel up to the first exchanges

The barrier, the loads, the two stores of the device's own product, and the six guarded starts: the half of a rail that the device
sends is started as soon as it is stored, and which half that is depends on the device.
-/
module

public import proofs.«01_k».proof.Proof.Rail
public import Idealize.ShloMosaic.Lib.Pipeline.Value

@[expose] public section

noncomputable section

namespace Cert.KernelIdeal.Body

open Cert.KernelIdeal Cert.KernelIdeal.Gen Cert.Butterfly

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (P : Dev nD → Cont F) (K : Dev nD × Kx → ℕ)

/-! ## The barrier -/

/-- The tokens, position and credit for the barrier. -/
def bars (c : Dev nD) : sProp 𝕄 :=
  iprop((dutyTok ER (barC (peer 0 c)) 0 (0 : Fin 3) ∗ dutyTok ER (barC (peer 1 c)) 0 (1 : Fin 3) ∗ dutyTok ER (barC (peer 2 c)) 0 (2 : Fin 3))
    ∗ atPos ER (barC c) 0 ∅ 0 ∗ cred (tallyAt (barC c) () 3))

/-- One signal: the windows that one partner will write are handed to it. -/
theorem signal (k : Fin 3) (c n : Dev nD) (hn : n = peer k c) (O O' : CellTallies nD τ sig Unit) (hO : O' = O + oweBar c k)
    {α : Type} {Q : α → sProp 𝕄} {kk : PUnit → Prog (TpuEff nD τ sig (Elt F) Λ₀ .tc) α} :
    iprop(records P K ∗ dutyTok ER (barC (peer k c)) 0 k ∗ windows c k ∗ ow c O')
      ⊢ iprop((ow c O -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Dev.tc n : Thread nD τ) barrier0 1) kk) Q) := by
  subst hn
  unfold ow oweBar at *
  iintro ⟨#HR, Ht, Hw, ⟨%W, HO⟩⟩ Hk
  iapply (Rounds.wp_signal 𝒱₀ ER (rd P) (c : Thread nD τ) none (dst := (peer k c : Thread nD τ)) (κ := K (peer k c, none)) (r := 0) (d := k)
      (by rw [show ((peer k c : Thread nD τ), SemLoc.reg barrier0) = barC (peer k c) from rfl, duties_bar]; exact Finset.mem_univ _) rfl () O hO (W := W)) $$ [Ht Hw HO]
  · isplitr; · iapply (inv_at P K (peer k c, none)); iexact HR
    isplitl [HO]; · iexact HO
    isplitl [Ht]; · iexact Ht
    isplitl [Hw]
    · iapply (Entails.of_eq (by rw [show ((peer k c : Thread nD τ), SemLoc.reg barrier0) = barC (peer k c) from rfl, payload_bar, peer_peer] :
        windows c k = (rd P).payload ((peer k c : Thread nD τ), SemLoc.reg barrier0) 0 k)); iexact Hw
    iapply (reached_at P K (peer k c, none)); iexact HR
  iintro HO
  iapply Hk
  iexists W; iexact HO

/-- The wait for the three partners' signals. -/
theorem wait_bar (c : Dev nD) (q : Sem sig) (hq : q = barrier0) {n : ℕ} (hn : n = 3)
    {α : Type} {Q : α → sProp 𝕄} {k : PUnit → Prog (TpuEff nD τ sig (Elt F) Λ₀ .tc) α} :
    iprop(records P K ∗ levAts L lv ∗ atPos ER (barC c) 0 ∅ 0 ∗ cred (tallyAt (barC c) () 3) ∗ ow c (oweN c 18))
      ⊢ iprop(((semVal (barC c) 0 ∗ (windows (peer 0 c) 0 ∗ windows (peer 1 c) 1 ∗ windows (peer 2 c) 2) ∗ ow c (oweN c 18)) -∗ wp frame (wpE (defs₀ (F := F)) 𝒱₀ (c : Thread nD τ) none) Set.univ (k ⟨⟩) Q)
          -∗ wp frame (wpE (defs₀ (F := F)) 𝒱₀ (c : Thread nD τ) none) Set.univ (.op (.semWait q n) k) Q) := by
  subst hq hn
  unfold ow
  iintro ⟨#HR, #Hlev, Hat, Hc, ⟨%W, HO⟩⟩ Hk
  iapply (Rounds.wp_wait_rest_token 𝒱₀ ER (rd P) (c : Thread nD τ) none (κ := K (c, none))
      (wpE_semWait_eq 𝒱₀ (c : Thread nD τ) none Set.univ) (Set.mem_univ _) () (O := oweN c 18) (W := W) (R := 0) (m := 0) (T := ∅)
      (by rw [Nat.zero_add]; exact (expect_bar P c).symm)) $$ [Hc HO Hat]
  · isplitr; · iapply (inv_at P K (c, none)); iexact HR
    isplitl [Hc]; · iexact Hc
    isplitl [HO]; · iexact HO
    isplitr; · iapply (mayWait (n := 1) (le_refl 1) (above_oweN c 18 (by decide) (by decide))); iexact Hlev
    iexact Hat
  iintro ⟨HO, Hat, -, Hpay⟩
  ihave Hp := (Entails.of_eq (rest_bar P c)) $$ Hpay
  imod (Rounds.cell_close ER (rd P) (Set.mem_univ (K (c, none))) (fun h => h) (R := 0 + 1) (duties_later P (barC c))) $$ [Hat] with Hz
  · isplitr; · iapply (inv_at P K (c, none)); iexact HR
    iexact Hat
  iapply Hk
  isplitl [Hz]; · iexact Hz
  isplitl [Hp]; · iexact Hp
  iexists _; iexact HO

/-- The three signals and the wait: each partner's windows for this device have come. -/
theorem part1_run (c : Dev nD) (Q : (Σ' (d0 : Dev nD) (v2 : BitVec 32) (v3 : BitVec 32) (v5 : BitVec 32) (v7 : BitVec 32) (v8 : BitVec 32) (v9 : BitVec 32) (v20 : BitVec 32) (v22 : BitVec 32) (v24 : BitVec 32), BitVec 32) → sProp 𝕄) :
    iprop(records P K ∗ levAts L lv ∗ bars c ∗ (windows c 0 ∗ windows c 1 ∗ windows c 2) ∗ ow c (O₀ c))
      ⊢ iprop((∀ v2 v3 v5 v7 v8 v9 v20 v22 v24 v27, (semVal (barC c) 0 ∗ (windows (peer 0 c) 0 ∗ windows (peer 1 c) 1 ∗ windows (peer 2 c) 2) ∗ ow c (oweN c 18))
            -∗ Q ⟨c, v2, v3, v5, v7, v8, v9, v20, v22, v24, v27⟩)
        -∗ wp frame (wpE (defs₀ (F := F)) 𝒱₀ (c : Thread nD τ) none) Set.univ
          (k0_part1 (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3) Q) := by
  rw [k0_part1_eq_skeleton]; unfold k0_part1_skel
  simp only [semSignalWord, semWaitWord, Prog.lift, Prog.bind_op, Prog.bind_ret, Prog.pure_eq_ret, wp_deviceId]
  unfold bars
  iintro ⟨#HR, #Hlev, ⟨⟨Ht0, Ht1, Ht2⟩, Hat, Hc⟩, ⟨Hw0, Hw1, Hw2⟩, HO⟩ Hk
  iapply (signal P K 0 c _ (Fin.ext (dev_signal c).1) (oweN c 18 + oweBar c 2 + oweBar c 1) (O₀ c) rfl) $$ [Ht0 Hw0 HO]
  · isplitr; · iexact HR
    isplitl [Ht0]; · iexact Ht0
    isplitl [Hw0] <;> iassumption
  iintro HO
  iapply (signal P K 1 c _ (Fin.ext (dev_signal c).2.1) (oweN c 18 + oweBar c 2) _ rfl) $$ [Ht1 Hw1 HO]
  · isplitr; · iexact HR
    isplitl [Ht1]; · iexact Ht1
    isplitl [Hw1] <;> iassumption
  iintro HO
  iapply (signal P K 2 c _ (Fin.ext (dev_signal c).2.2) (oweN c 18) _ rfl) $$ [Ht2 Hw2 HO]
  · isplitr; · iexact HR
    isplitl [Ht2]; · iexact Ht2
    isplitl [Hw2] <;> iassumption
  iintro HO
  iapply (wait_bar P K c _ rfl rfl) $$ [Hc HO Hat]
  · isplitr; · iexact HR
    isplitr; · iexact Hlev
    isplitl [Hat]; · iexact Hat
    isplitl [Hc] <;> iassumption
  iintro ⟨Hz, Hp, HO⟩
  rw [wp_ret]; imodintro
  iapply Hk
  isplitl [Hz]; · iexact Hz
  isplitl [Hp] <;> iassumption

end Cert.KernelIdeal.Body

end
-- ==== Proof.Early.lean ====
/-
# The device's own product and the guarded starts

The loads, the two stores of the device's own product, half by half, and the six guarded starts: the half of a rail that the
device sends is started as soon as it is stored, and which half that is depends on the device.
-/
module

public import proofs.«01_k».proof.Proof.Parts
public import proofs.«01_k».proof.Proof.Begin
public import Idealize.ShloMosaic.Lib.Pipeline.Value

@[expose] public section

noncomputable section

namespace Cert.KernelIdeal.Body

open Cert.KernelIdeal Cert.KernelIdeal.Gen Cert.Butterfly

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (P : Dev nD → Cont F) (K : Dev nD × Kx → ℕ)

/-! ## Loads -/

theorem hz2 : (![0, 0] : Fin 2 → Nat) = fun _ => 0 := funext fun a => by fin_cases a <;> rfl
theorem hz3 : (![0, 0, 0] : Fin 3 → Nat) = fun _ => 0 := funext fun a => by fin_cases a <;> rfl

/-- A staging buffer of device `c` and what it holds. -/
def stg (c : Dev nD) (b : Ref sig .tc) (f : Buf (Elt F) ((c : Thread nD τ).loc b)) : sProp 𝕄 := ((c : Thread nD τ).loc b) ↦{fullShare} f

/-- The activations and one projection matrix are read. -/
theorem part2_run (c : Dev nD) (v3 v5 v7 v9 v20 v22 v27 : BitVec 32) (x : Vec F S1x256x1024 .f32) (wk : Vec F S1024x1024 .f32)
    (Q : (Σ' (v33 : BitVec 32) (v35 : BitVec 32) (v37 : BitVec 32) (v46 : BitVec 32) (v48 : BitVec 32) (v50 : BitVec 32) (v60 : FVec F S256x1024 .f32), Vec F S1024x1024 .f32) → sProp 𝕄) :
    iprop(stg c cc0_stg0_0 x ∗ stg c cc0_stg3_0 wk)
      ⊢ iprop((∀ v33 v35 v37 v46 v48 v50, (stg c cc0_stg0_0 x ∗ stg c cc0_stg3_0 wk) -∗ Q ⟨v33, v35, v37, v46, v48, v50, k0_pay2 x, wk⟩)
        -∗ wp frame (wpE (defs₀ (F := F)) 𝒱₀ (c : Thread nD τ) none) Set.univ (k0_part2 (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 v3 v5 v7 v9 v20 v22 v27) Q) := by
  rw [k0_part2_eq_skeleton]; unfold k0_part2_skel
  simp only [Prog.lift, Prog.bind_op, Prog.bind_ret, Prog.pure_eq_ret]
  unfold stg
  iintro ⟨H0, H3⟩ Hk
  iapply (wp_load 𝒱₀ (c : Thread nD τ) none Set.univ (m := (Memref.whole cc0_stg0_0 : Memref sig .tc .vmem S1x256x1024 .f32)) (Finset.subset_univ _)) $$ H0; iintro H0
  erw [Memref.readAt_unit_zero (Elt F) cc0_stg0_0 hz3 _ x]
  iapply (wp_load 𝒱₀ (c : Thread nD τ) none Set.univ (m := (Memref.whole cc0_stg3_0 : Memref sig .tc .vmem S1024x1024 .f32)) (Finset.subset_univ _)) $$ H3; iintro H3
  erw [Memref.readAt_unit_zero (Elt F) cc0_stg3_0 hz2 _ wk]
  rw [wp_ret]; imodintro
  iapply Hk
  isplitl [H0] <;> iassumption

/-- The other two projection matrices are read. -/
theorem part3_run (c : Dev nD) (v60 : FVec F S256x1024 .f32) (v61 wq wv : Vec F S1024x1024 .f32)
    (Q : (Σ' (v63 : FVec F S256x1024 .f32) (v66 : FVec F S256x1024 .f32) (v69 : FVec F S256x1024 .f32) (v86 : FVec F S128x128 .f32) (v103 : FVec F S128x128 .f32), FVec F S128x128 .f32) → sProp 𝕄) :
    iprop(stg c cc0_stg4_0 wv ∗ stg c cc0_stg1_0 wq)
      ⊢ iprop(((stg c cc0_stg4_0 wv ∗ stg c cc0_stg1_0 wq) -∗ Q ⟨k0_pay3 v60 v61, k0_pay4 v60 wv, k0_pay5 v60 wq, k0_pay6 v60 v61 wv wq, k0_pay7 v60 v61 wv wq, k0_pay8 v60 wq⟩)
        -∗ wp frame (wpE (defs₀ (F := F)) 𝒱₀ (c : Thread nD τ) none) Set.univ (k0_part3 (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 v60 v61) Q) := by
  rw [k0_part3_eq_skeleton]; unfold k0_part3_skel
  simp only [Prog.lift, Prog.bind_op, Prog.bind_ret, Prog.pure_eq_ret]
  unfold stg
  iintro ⟨H4, H1⟩ Hk
  iapply (wp_load 𝒱₀ (c : Thread nD τ) none Set.univ (m := (Memref.whole cc0_stg4_0 : Memref sig .tc .vmem S1024x1024 .f32)) (Finset.subset_univ _)) $$ H4; iintro H4
  erw [Memref.readAt_unit_zero (Elt F) cc0_stg4_0 hz2 _ wv]
  iapply (wp_load 𝒱₀ (c : Thread nD τ) none Set.univ (m := (Memref.whole cc0_stg1_0 : Memref sig .tc .vmem S1024x1024 .f32)) (Finset.subset_univ _)) $$ H1; iintro H1
  erw [Memref.readAt_unit_zero (Elt F) cc0_stg1_0 hz2 _ wq]
  rw [wp_ret]; imodintro
  iapply Hk
  isplitl [H4] <;> iassumption

/-! ## A guarded start -/

/-- A guarded program keeps its promise if either branch does. -/
theorem cond_start (c : Dev nD) {p : Prop} [Decidable p] {α : Type} {body : p → Prog (TpuEff nD τ sig (Elt F) Λ₀ .tc) α}
    {rest : Prog (TpuEff nD τ sig (Elt F) Λ₀ .tc) α} {X Y : sProp 𝕄} {Q : α → sProp 𝕄}
    (h1 : ∀ h : p, X ⊢ iprop((Y -∗ wp frame (wpE (defs₀ (F := F)) 𝒱₀ (c : Thread nD τ) none) Set.univ rest Q) -∗ wp frame (wpE (defs₀ (F := F)) 𝒱₀ (c : Thread nD τ) none) Set.univ (body h) Q)) (h0 : ¬p → X ⊢ Y) :
    X ⊢ iprop((Y -∗ wp frame (wpE (defs₀ (F := F)) 𝒱₀ (c : Thread nD τ) none) Set.univ rest Q) -∗ wp frame (wpE (defs₀ (F := F)) 𝒱₀ (c : Thread nD τ) none) Set.univ (if h : p then body h else rest) Q) := by
  by_cases h : p
  · rw [dif_pos h]; exact h1 h
  · rw [dif_neg h]
    iintro HX Hk
    iapply Hk
    iapply (h0 h); iexact HX

/-- Which half a rail keeps first. -/
theorem sel_lo (r : Fin 3) (c : Dev nD) (h : sel r 0 c = 0) : sent r 0 c = 128 ∧ kept r 0 c = 0 := by revert r c; decide
theorem sel_hi (r : Fin 3) (c : Dev nD) (h : sel r 0 c = 1) : sent r 0 c = 0 ∧ kept r 0 c = 128 := by revert r c; decide

/-- After the upper half is stored: where it is the half to send it has gone, elsewhere nothing has. -/
def early (c : Dev nD) (r : Fin 3) : sProp 𝕄 :=
  if sel r 0 c = 0 then run c r 0 else iprop(pre c r 0 ∗ accP c (reg r 128 128) (part P 0 c))
/-- What is owed for the rail's first exchange then. -/
def oweE (c : Dev nD) (r : Fin 3) : CellTallies nD τ sig Unit := if sel r 0 c = 0 then 0 else owe c r (ph 0)

section Guarded

variable {offS offD sz : Fin 2 → ℕ} {inbS : ∀ a, offS a + sz a ≤ SB.size a} {inbD : ∀ a, offD a + sz a ≤ SB.size a}

/-- The upper half goes. -/
theorem hi_taken (r : Fin 3) (c n : Dev nD) (qs qr : DmaSem sig) (hs : sel r 0 c = 0) (hn : n = peer (dir r 0) c) (hqs : qs = sendS r (ph 0)) (hqr : qr = recvS r (ph 0))
    (hS : offS = ![sent r 0 c, cl r]) (hD : offD = ![wrow 0, cl r]) (hsz : sz = ![half 0, cw r])
    (O : CellTallies nD τ sig Unit)
    {hsc : (winM offD sz inbD : Memref sig (Dev.tc n : Thread nD τ).2.kind .vmem ⟨2, sz⟩ .bf16).view.ref.isScScratch = false}
    {hsrc : (accM offS sz inbS).view.WordExact} {hdst : (winM offD sz inbD).view.WordExact}
    {hsem : DmaTarget.Typed .vmem (.dma qr) (.remote (Dev.tc n : Thread nD τ) (winM offD sz inbD) (.dma qs) hsc)} {α : Type} {Q : α → sProp 𝕄} {k : Prog (TpuEff nD τ sig (Elt F) Λ₀ .tc) α} :
    iprop(records P K ∗ pre c r 0 ∗ accP c (reg r 128 128) (part P 0 c) ∗ ow c (O + owe c r (ph 0)))
      ⊢ iprop(((early P c r ∗ ow c (O + oweE c r)) -∗ wp frame (wpE (defs₀ (F := F)) 𝒱₀ (c : Thread nD τ) none) Set.univ k Q)
          -∗ wp frame (wpE (defs₀ (F := F)) 𝒱₀ (c : Thread nD τ) none) Set.univ
              (.op (.enqueueDma (accM offS sz inbS) (.remote (Dev.tc n : Thread nD τ) (winM offD sz inbD) (.dma qs) hsc) (.dma qr) hsrc hdst hsem) fun _ => k) Q) := by
  unfold early oweE
  rw [if_pos hs, if_pos hs, add_zero]
  have hg := send_rs P K r 0 c n qs qr hn hqs hqr hS hD hsz (inbS := inbS) (inbD := inbD) (hsc := hsc) (hsrc := hsrc) (hdst := hdst) (hsem := hsem)
    (Q := Q) (k := fun _ => k) O (O + owe c r (ph 0)) rfl
  rw [(sel_lo r c hs).1] at hg
  refine hg.trans ?_
  iintro Hg Hk
  iapply Hg
  iintro H
  iapply Hk; iexact H

/-- The upper half stays. -/
theorem hi_not (r : Fin 3) (c : Dev nD) (hs : ¬sel r 0 c = 0) (O : CellTallies nD τ sig Unit) :
    iprop(records P K ∗ pre c r 0 ∗ accP c (reg r 128 128) (part P 0 c) ∗ ow c (O + owe c r (ph 0)))
      ⊢ iprop(early P c r ∗ ow c (O + oweE c r)) := by
  unfold early oweE
  rw [if_neg hs, if_neg hs]
  iintro ⟨-, Hp, Ha, HO⟩
  isplitl [Hp Ha]
  · isplitl [Hp] <;> iassumption
  iexact HO

/-- The lower half goes. -/
theorem lo_taken (r : Fin 3) (c n : Dev nD) (qs qr : DmaSem sig) (hs : sel r 0 c = 1) (hn : n = peer (dir r 0) c) (hqs : qs = sendS r (ph 0)) (hqr : qr = recvS r (ph 0))
    (hS : offS = ![sent r 0 c, cl r]) (hD : offD = ![wrow 0, cl r]) (hsz : sz = ![half 0, cw r])
    (O : CellTallies nD τ sig Unit)
    {hsc : (winM offD sz inbD : Memref sig (Dev.tc n : Thread nD τ).2.kind .vmem ⟨2, sz⟩ .bf16).view.ref.isScScratch = false}
    {hsrc : (accM offS sz inbS).view.WordExact} {hdst : (winM offD sz inbD).view.WordExact}
    {hsem : DmaTarget.Typed .vmem (.dma qr) (.remote (Dev.tc n : Thread nD τ) (winM offD sz inbD) (.dma qs) hsc)} {α : Type} {Q : α → sProp 𝕄} {k : Prog (TpuEff nD τ sig (Elt F) Λ₀ .tc) α} :
    iprop(records P K ∗ early P c r ∗ accP c (reg r 0 128) (part P 0 c) ∗ ow c (O + oweE c r))
      ⊢ iprop(((run c r 0 ∗ Kp P r 0 c ∗ ow c O) -∗ wp frame (wpE (defs₀ (F := F)) 𝒱₀ (c : Thread nD τ) none) Set.univ k Q)
          -∗ wp frame (wpE (defs₀ (F := F)) 𝒱₀ (c : Thread nD τ) none) Set.univ
              (.op (.enqueueDma (accM offS sz inbS) (.remote (Dev.tc n : Thread nD τ) (winM offD sz inbD) (.dma qs) hsc) (.dma qr) hsrc hdst hsem) fun _ => k) Q) := by
  have h0 : ¬sel r 0 c = 0 := by rw [hs]; decide
  unfold early oweE Kp
  rw [if_neg h0, if_neg h0, (sel_hi r c hs).2]
  have hg := send_rs P K r 0 c n qs qr hn hqs hqr hS hD hsz (inbS := inbS) (inbD := inbD) (hsc := hsc) (hsrc := hsrc) (hdst := hdst) (hsem := hsem)
    (Q := Q) (k := fun _ => k) O (O + owe c r (ph 0)) rfl
  rw [(sel_hi r c hs).1] at hg
  iintro ⟨#HR, ⟨Hp, Hhi⟩, Hlo, HO⟩ Hk
  iapply hg $$ [Hp Hlo HO]
  · isplitr; · iexact HR
    isplitl [Hp]; · iexact Hp
    isplitl [Hlo]; · iexact Hlo
    iexact HO
  iintro ⟨Hr, HO⟩
  iapply Hk
  isplitl [Hr]; · iexact Hr
  isplitl [Hhi]; · iexact Hhi
  iexact HO

/-- The lower half stays. -/
theorem lo_not (r : Fin 3) (c : Dev nD) (hs : ¬sel r 0 c = 1) (O : CellTallies nD τ sig Unit) :
    iprop(records P K ∗ early P c r ∗ accP c (reg r 0 128) (part P 0 c) ∗ ow c (O + oweE c r))
      ⊢ iprop(run c r 0 ∗ Kp P r 0 c ∗ ow c O) := by
  have h0 : sel r 0 c = 0 := (sel_zero_or_one r 0 c).resolve_right hs
  unfold early oweE Kp
  rw [if_pos h0, if_pos h0, (sel_lo r c h0).2, add_zero]
  iintro ⟨-, Hr, Hlo, HO⟩
  isplitl [Hr]; · iexact Hr
  isplitl [Hlo]; · iexact Hlo
  iexact HO

end Guarded

/-! ## The two stores -/

/-- Storing `128` whole rows of the product: the rows of the three rails hold it. -/
theorem store_rows (c : Dev nD) (lo : ℕ) (off : Fin 2 → ℕ) (ho : off = ![lo, 0]) (inb : ∀ a, off a + S128x1024.size a ≤ S256x1024.size a)
    (w : Vec F S128x1024 .bf16) (hP : ∀ x, P c ((Rect.unit (s := S256x1024) off S128x1024.size inb).emb x) = w x)
    {hl : (Memref.whole cc0_scratch0 : Memref sig .tc .vmem S256x1024 .bf16).view.LoadsAt (Rect.unit (s := S256x1024) off S128x1024.size inb).toLoadRect}
    {hx : ((Memref.whole cc0_scratch0 : Memref sig .tc .vmem S256x1024 .bf16).access (Rect.unit (s := S256x1024) off S128x1024.size inb)).Stores Finset.univ}
    {hm : (Finset.univ : Finset S128x1024.Idx) = Finset.univ ∨ ∀ a, (Rect.unit (s := S256x1024) off S128x1024.size inb).stride a = 1}
    {α : Type} {Q : α → sProp 𝕄} {k : PUnit → Prog (TpuEff nD τ sig (Elt F) Λ₀ .tc) α} :
    iprop(∃ f, accP c (rows lo 128) f)
      ⊢ iprop(((accP c (reg 0 lo 128) (part P 0 c) ∗ accP c (reg 1 lo 128) (part P 0 c) ∗ accP c (reg 2 lo 128) (part P 0 c)) -∗ wp frame (wpE (defs₀ (F := F)) 𝒱₀ (c : Thread nD τ) none) Set.univ (k ⟨⟩) Q)
          -∗ wp frame (wpE (defs₀ (F := F)) 𝒱₀ (c : Thread nD τ) none) Set.univ
              (.op (.load (Memref.whole cc0_scratch0 : Memref sig .tc .vmem S256x1024 .bf16) (Rect.unit (s := S256x1024) off S128x1024.size inb).toLoadRect hl) fun _ =>
                .op (.store (Memref.whole cc0_scratch0 : Memref sig .tc .vmem S256x1024 .bf16) (Rect.unit (s := S256x1024) off S128x1024.size inb) w Finset.univ hx hm) k) Q) := by
  have hset : ((Memref.whole cc0_scratch0 : Memref sig .tc .vmem S256x1024 .bf16).access (Rect.unit (s := S256x1024) off S128x1024.size inb)).set = rows lo 128 :=
    (View.set_slice_whole cc0_scratch0 _).trans (set_eq_rows inb ho rfl)
  rw [← accP_rows]
  iintro ⟨%f, Ha⟩
  have hv : ∀ i ∈ rows lo 128, ((Memref.whole cc0_scratch0 : Memref sig .tc .vmem S256x1024 .bf16).access (Rect.unit (s := S256x1024) off S128x1024.size inb)).write (Elt F) f w Finset.univ i
      = part P 0 c i := fun i hi => by
    rw [← hset] at hi
    obtain ⟨x, -, rfl⟩ := Finset.mem_map.mp hi
    exact (View.write_emb_of_mem _ _ (Finset.mem_univ x)).trans (hP x).symm
  rw [← accP_congr hv]
  unfold accP
  iintro Hk
  iapply (wp_load_rect 𝒱₀ (c : Thread nD τ) none Set.univ (m := (Memref.whole cc0_scratch0 : Memref sig .tc .vmem S256x1024 .bf16)) (le_of_eq hset)) $$ Ha; iintro Ha
  iapply (wp_store 𝒱₀ (c : Thread nD τ) none Set.univ (m := (Memref.whole cc0_scratch0 : Memref sig .tc .vmem S256x1024 .bf16)) (Mk := Finset.univ)
    (le_of_eq hset)) $$ Ha; iintro Ha
  iapply Hk
  iexact Ha

/-- The upper half of the product is stored, and goes where it is the half to send. -/
theorem part6_run (c : Dev nD) (v2 v5 v7 v8 : BitVec 32) (v63 v66 v69 : FVec F S256x1024 .f32) (v86 v103 v120 v137 v154 v171 v188 : FVec F S128x128 .f32)
    (v194 : FVec F S128x256 .f32) (v196 : FVec F S128x1 .f32) (wo : Vec F S1024x1024 .f32)
    (hP : ∀ x, P c ((Rect.unit (s := S256x1024) ![128, 0] S128x1024.size inb_S256x1024_S128x1024_128_0).emb x) = k0_pay18 v66 v86 v103 v120 v137 v154 v171 v188 v194 v196 wo x)
    (Q : (Σ' (v233 : FVec F S128x256 .f32), FVec F S128x1 .f32) → sProp 𝕄) :
    iprop(records P K ∗ stg c cc0_stg2_0 wo ∗ (∃ f, accP c (rows 128 128) f) ∗ pre c 0 0 ∗ pre c 1 0 ∗ pre c 2 0 ∗ ow c (oweN c 18))
      ⊢ iprop(((stg c cc0_stg2_0 wo ∗ early P c 0 ∗ early P c 1 ∗ early P c 2 ∗ ow c (oweN c 15 + oweE c 0 + oweE c 1 + oweE c 2)) -∗ Q ⟨k0_pay19 v63 v69, k0_pay20 v63 v69⟩)
        -∗ wp frame (wpE (defs₀ (F := F)) 𝒱₀ (c : Thread nD τ) none) Set.univ (k0_part6 (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 c v2 v5 v7 v8 v63 v66 v69 v86 v103 v120 v137 v154 v171 v188 v194 v196) Q) := by
  rw [k0_part6_eq_skeleton]; unfold k0_part6_skel
  simp only [Prog.lift, Prog.bind_op, Prog.bind_ret, Prog.pure_eq_ret]
  iintro ⟨#HR, Hwo, Ha, H0, H1, H2, HO⟩ Hk
  unfold stg
  iapply (wp_load 𝒱₀ (c : Thread nD τ) none Set.univ (m := (Memref.whole cc0_stg2_0 : Memref sig .tc .vmem S1024x1024 .f32)) (Finset.subset_univ _)) $$ Hwo; iintro Hwo
  erw [Memref.readAt_unit_zero (Elt F) cc0_stg2_0 hz2 inb_S1024x1024_S1024x1024_0_0 wo]
  iapply (store_rows P c 128 _ rfl _ _ hP) $$ Ha
  iintro ⟨X0, X1, X2⟩
  iapply (cond_start c (fun h => hi_taken P K 0 c _ _ _ ((conds c).1.1.mp h) (Fin.ext (off1_eq c h).2) rfl rfl (off1_eq c h).1 rfl rfl (oweN c 15 + owe c 2 (ph 0) + owe c 1 (ph 0)))
    (fun h => hi_not P K 0 c (fun e => h ((conds c).1.1.mpr e)) (oweN c 15 + owe c 2 (ph 0) + owe c 1 (ph 0)))) $$ [H0 X0 HO]
  · isplitr; · iexact HR
    isplitl [H0]; · iexact H0
    isplitl [X0]; · iexact X0
    iapply (Entails.of_eq (congrArg (ow c) (show oweN c 18 = oweN c 15 + owe c 2 (ph 0) + owe c 1 (ph 0) + owe c 0 (ph 0) from by rfl))); iexact HO
  iintro ⟨H0, HO⟩
  iapply (cond_start c (fun h => hi_taken P K 1 c _ _ _ ((conds c).1.2.1.mp h) (Fin.ext (off2_eq c h).2) rfl rfl (off2_eq c h).1 rfl rfl (oweN c 15 + owe c 2 (ph 0) + oweE c 0))
    (fun h => hi_not P K 1 c (fun e => h ((conds c).1.2.1.mpr e)) (oweN c 15 + owe c 2 (ph 0) + oweE c 0))) $$ [H1 X1 HO]
  · isplitr; · iexact HR
    isplitl [H1]; · iexact H1
    isplitl [X1]; · iexact X1
    iapply (Entails.of_eq (congrArg (ow c) (show oweN c 15 + owe c 2 (ph 0) + owe c 1 (ph 0) + oweE c 0 = oweN c 15 + owe c 2 (ph 0) + oweE c 0 + owe c 1 (ph 0) from by rw [add_right_comm (oweN c 15 + owe c 2 (ph 0)) (owe c 1 (ph 0))]))); iexact HO
  iintro ⟨H1, HO⟩
  iapply (cond_start c (fun h => hi_taken P K 2 c _ _ _ ((conds c).1.2.2.mp h) (Fin.ext (off3_eq c h).2) rfl rfl (off3_eq c h).1 rfl rfl (oweN c 15 + oweE c 0 + oweE c 1))
    (fun h => hi_not P K 2 c (fun e => h ((conds c).1.2.2.mpr e)) (oweN c 15 + oweE c 0 + oweE c 1))) $$ [H2 X2 HO]
  · isplitr; · iexact HR
    isplitl [H2]; · iexact H2
    isplitl [X2]; · iexact X2
    iapply (Entails.of_eq (congrArg (ow c) (show oweN c 15 + owe c 2 (ph 0) + oweE c 0 + oweE c 1 = oweN c 15 + oweE c 0 + oweE c 1 + owe c 2 (ph 0) from by rw [add_right_comm (oweN c 15) (owe c 2 (ph 0)) (oweE c 0), add_right_comm (oweN c 15 + oweE c 0) (owe c 2 (ph 0))]))); iexact HO
  iintro ⟨H2, HO⟩
  rw [wp_ret]; imodintro
  iapply Hk
  isplitl [Hwo]; · iexact Hwo
  isplitl [H0]; · iexact H0
  isplitl [H1]; · iexact H1
  isplitl [H2] <;> iassumption

/-- The lower half is stored; on rail 0 it goes where it is the half to send. -/
theorem part9_run (c : Dev nD) (v2 v8 : BitVec 32) (v63 v66 v69 : FVec F S256x1024 .f32) (v239 v256 v273 v290 v307 v324 : FVec F S128x128 .f32)
    (v328 : FVec F S128x256 .f32) (wo : Vec F S1024x1024 .f32)
    (hP : ∀ x, P c ((Rect.unit (s := S256x1024) ![0, 0] S128x1024.size inb_S256x1024_S128x1024_0_0).emb x) = k0_pay30 v63 v66 v69 v239 v256 v273 v290 v307 v324 v328 wo x)
    (Q : BitVec 32 → sProp 𝕄) :
    iprop(records P K ∗ stg c cc0_stg2_0 wo ∗ (∃ f, accP c (rows 0 128) f) ∗ early P c 0 ∗ ow c (oweN c 15 + oweE c 0 + oweE c 1 + oweE c 2))
      ⊢ iprop((∀ x, (stg c cc0_stg2_0 wo ∗ run c 0 0 ∗ Kp P 0 0 c ∗ accP c (reg 1 0 128) (part P 0 c) ∗ accP c (reg 2 0 128) (part P 0 c) ∗ ow c (oweN c 15 + oweE c 1 + oweE c 2)) -∗ Q x)
        -∗ wp frame (wpE (defs₀ (F := F)) 𝒱₀ (c : Thread nD τ) none) Set.univ (k0_part9 (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 c v2 v8 v63 v66 v69 v239 v256 v273 v290 v307 v324 v328) Q) := by
  rw [k0_part9_eq_skeleton]; unfold k0_part9_skel
  simp only [Prog.lift, Prog.bind_op, Prog.bind_ret, Prog.pure_eq_ret]
  iintro ⟨#HR, Hwo, Ha, H0, HO⟩ Hk
  unfold stg
  iapply (wp_load 𝒱₀ (c : Thread nD τ) none Set.univ (m := (Memref.whole cc0_stg2_0 : Memref sig .tc .vmem S1024x1024 .f32)) (Finset.subset_univ _)) $$ Hwo; iintro Hwo
  erw [Memref.readAt_unit_zero (Elt F) cc0_stg2_0 hz2 inb_S1024x1024_S1024x1024_0_0 wo]
  iapply (store_rows P c 0 _ rfl _ _ hP) $$ Ha
  iintro ⟨X0, X1, X2⟩
  iapply (cond_start c (fun h => lo_taken P K 0 c _ _ _ ((conds c).2.1.mp h) (Fin.ext (off4_eq c h).2) rfl rfl (off4_eq c h).1 rfl rfl (oweN c 15 + oweE c 1 + oweE c 2))
    (fun h => lo_not P K 0 c (fun e => h ((conds c).2.1.mpr e)) (oweN c 15 + oweE c 1 + oweE c 2))) $$ [H0 X0 HO]
  · isplitr; · iexact HR
    isplitl [H0]; · iexact H0
    isplitl [X0]; · iexact X0
    iapply (Entails.of_eq (congrArg (ow c) (show oweN c 15 + oweE c 0 + oweE c 1 + oweE c 2 = oweN c 15 + oweE c 1 + oweE c 2 + oweE c 0 from by rw [add_right_comm (oweN c 15 + oweE c 1), add_right_comm (oweN c 15) (oweE c 1)]))); iexact HO
  iintro ⟨H0, X0, HO⟩
  rw [wp_ret]; imodintro
  iapply Hk
  isplitl [Hwo]; · iexact Hwo
  isplitl [H0]; · iexact H0
  isplitl [X0]; · iexact X0
  isplitl [X1]; · iexact X1
  isplitl [X2] <;> iassumption

/-- The same on rails 1 and 2; rail 0 ends its first stage. -/
theorem part10_run (c : Dev nD) (v2 v5 v7 v20 v : BitVec 32) (Q : PUnit → sProp 𝕄) :
    iprop(records P K ∗ levAts L lv ∗ run c 0 0 ∗ Kp P 0 0 c ∗ early P c 1 ∗ accP c (reg 1 0 128) (part P 0 c) ∗ early P c 2 ∗ accP c (reg 2 0 128) (part P 0 c)
        ∗ ow c (oweN c 15 + oweE c 1 + oweE c 2))
      ⊢ iprop(((mid c 0 0 ∗ A P 0 1 c ∗ run c 1 0 ∗ Kp P 1 0 c ∗ run c 2 0 ∗ Kp P 2 0 c ∗ ow c (oweN c 15)) -∗ Q ⟨⟩)
        -∗ wp frame (wpE (defs₀ (F := F)) 𝒱₀ (c : Thread nD τ) none) Set.univ (k0_part10 (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 c v2 v5 v7 v20 v) Q) := by
  rw [k0_part10_eq_skeleton]; unfold k0_part10_skel
  simp only [Prog.lift, Prog.bind_op, Prog.bind_ret, Prog.pure_eq_ret]
  iintro ⟨#HR, #Hlev, H0, X0, H1, X1, H2, X2, HO⟩ Hk
  iapply (cond_start c (fun h => lo_taken P K 1 c _ _ _ ((conds c).2.2.1.mp h) (Fin.ext (off5_eq c h).2) rfl rfl (off5_eq c h).1 rfl rfl (oweN c 15 + oweE c 2))
    (fun h => lo_not P K 1 c (fun e => h ((conds c).2.2.1.mpr e)) (oweN c 15 + oweE c 2))) $$ [H1 X1 HO]
  · isplitr; · iexact HR
    isplitl [H1]; · iexact H1
    isplitl [X1]; · iexact X1
    iapply (Entails.of_eq (congrArg (ow c) (show oweN c 15 + oweE c 1 + oweE c 2 = oweN c 15 + oweE c 2 + oweE c 1 from by rw [add_right_comm (oweN c 15) (oweE c 2) (oweE c 1)]))); iexact HO
  iintro ⟨H1, X1, HO⟩
  iapply (cond_start c (fun h => lo_taken P K 2 c _ _ _ ((conds c).2.2.2.mp h) (Fin.ext (off6_eq c h).2) rfl rfl (off6_eq c h).1 rfl rfl (oweN c 15))
    (fun h => lo_not P K 2 c (fun e => h ((conds c).2.2.2.mpr e)) (oweN c 15))) $$ [H2 X2 HO]
  · isplitr; · iexact HR
    isplitl [H2]; · iexact H2
    isplitl [X2]; · iexact X2
    iapply (Entails.of_eq (congrArg (ow c) (show oweN c 15 + oweE c 2 = oweN c 15 + oweE c 2 from by rfl))); iexact HO
  iintro ⟨H2, X2, HO⟩
  iapply (end_rs P K 0 0 c _ _ rfl rfl (off8_eq c) rfl rfl k0_pay31 pay31_add _ (next01 P 0 c) (oweN c 15)
    (above_oweN c 15 (by decide) (by decide)) (above_oweN c 15 (by decide) (by decide)) rfl rfl) $$ [H0 X0 HO]
  · isplitr; · iexact HR
    isplitr; · iexact Hlev
    isplitl [H0]; · iexact H0
    isplitl [X0] <;> iassumption
  iintro ⟨H0, X0, HO⟩
  rw [wp_ret]; imodintro
  iapply Hk
  isplitl [H0]; · iexact H0
  isplitl [X0]; · iexact X0
  isplitl [H1]; · iexact H1
  isplitl [X1]; · iexact X1
  isplitl [H2]; · iexact H2
  isplitl [X2] <;> iassumption

end Cert.KernelIdeal.Body

end
-- ==== Proof.Body.lean ====
/-
# One device's run

From the handshake to the store of the result, part after part: what a device starts with, and what it ends with.
-/
module

public import proofs.«01_k».proof.Proof.Early
public import Idealize.ShloMosaic.Lib.Pipeline.Value

@[expose] public section

noncomputable section

namespace Cert.KernelIdeal.Body

open Cert.KernelIdeal Cert.KernelIdeal.Gen Cert.Butterfly

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (P : Dev nD → Cont F) (K : Dev nD × Kx → ℕ)

/-! ## The device's own product -/

section Own

variable (x : Vec F S1x256x1024 .f32) (wq wo wk wv : Vec F S1024x1024 .f32)

/-- The projected activations: the keys, the values and the queries of the device's heads. -/
def keys : FVec F S256x1024 .f32 := k0_pay3 (k0_pay2 x) wk
def vals : FVec F S256x1024 .f32 := k0_pay4 (k0_pay2 x) wv
def qrys : FVec F S256x1024 .f32 := k0_pay5 (k0_pay2 x) wq

/-- Rows 128 to 255 of the device's own product. -/
def hiOf : Vec F S128x1024 .bf16 :=
  k0_pay18 (vals x wv) (k0_pay6 (k0_pay2 x) wk wv wq) (k0_pay7 (k0_pay2 x) wk wv wq)
    (k0_pay9 (keys x wk) (vals x wv) (k0_pay8 (k0_pay2 x) wq)) (k0_pay10 (keys x wk) (vals x wv) (qrys x wq))
    (k0_pay13 (vals x wv) (k0_pay11 (keys x wk) (qrys x wq)) (k0_pay12 (keys x wk) (qrys x wq)))
    (k0_pay14 (keys x wk) (vals x wv) (qrys x wq)) (k0_pay15 (keys x wk) (vals x wv) (qrys x wq))
    (k0_pay16 (keys x wk) (qrys x wq)) (k0_pay17 (keys x wk) (qrys x wq)) wo

/-- Rows 0 to 127 of the device's own product. -/
def loOf : Vec F S128x1024 .bf16 :=
  k0_pay30 (keys x wk) (vals x wv) (qrys x wq)
    (k0_pay21 (vals x wv) (k0_pay19 (keys x wk) (qrys x wq)) (k0_pay20 (keys x wk) (qrys x wq)))
    (k0_pay22 (keys x wk) (vals x wv) (qrys x wq)) (k0_pay23 (keys x wk) (vals x wv) (qrys x wq))
    (k0_pay26 (vals x wv) (k0_pay24 (keys x wk) (qrys x wq)) (k0_pay25 (keys x wk) (qrys x wq)))
    (k0_pay27 (keys x wk) (vals x wv) (qrys x wq)) (k0_pay28 (keys x wk) (vals x wv) (qrys x wq))
    (k0_pay29 (keys x wk) (qrys x wq)) wo

/-- The two halves put together. -/
def ownOf : Cont F := fun i =>
  if h : (i 0).val < 128 then loOf x wq wo wk wv (Fin.cons ⟨(i 0).val, h⟩ (Fin.cons (i 1) fun a => a.elim0))
  else hiOf x wq wo wk wv (Fin.cons ⟨(i 0).val - 128, by have h1 : (i 0).val < 256 := (i 0).isLt; show (i 0).val - 128 < 128; omega⟩ (Fin.cons (i 1) fun a => a.elim0))

theorem ownOf_hi (y : S128x1024.Idx) :
    ownOf x wq wo wk wv ((Rect.unit (s := S256x1024) ![128, 0] S128x1024.size inb_S256x1024_S128x1024_128_0).emb y) = hiOf x wq wo wk wv y := by
  have h0 : ((Rect.unit (s := S256x1024) ![128, 0] S128x1024.size inb_S256x1024_S128x1024_128_0).emb y 0).val = 128 + (y 0).val := by
    show 128 + 1 * (y 0).val = _; omega
  have h1 : ((Rect.unit (s := S256x1024) ![128, 0] S128x1024.size inb_S256x1024_S128x1024_128_0).emb y 1).val = (y 1).val := by
    show 0 + 1 * (y 1).val = _; omega
  unfold ownOf
  rw [dif_neg (by rw [h0]; omega)]
  refine congrArg (hiOf x wq wo wk wv) ?_
  funext a
  refine Fin.ext ?_
  revert a
  exact Fin.forall_fin_two.mpr ⟨by show _ - 128 = _; rw [h0]; omega, h1⟩

theorem ownOf_lo (y : S128x1024.Idx) :
    ownOf x wq wo wk wv ((Rect.unit (s := S256x1024) ![0, 0] S128x1024.size inb_S256x1024_S128x1024_0_0).emb y) = loOf x wq wo wk wv y := by
  have h0 : ((Rect.unit (s := S256x1024) ![0, 0] S128x1024.size inb_S256x1024_S128x1024_0_0).emb y 0).val = (y 0).val := by
    show 0 + 1 * (y 0).val = _; omega
  have h1 : ((Rect.unit (s := S256x1024) ![0, 0] S128x1024.size inb_S256x1024_S128x1024_0_0).emb y 1).val = (y 1).val := by
    show 0 + 1 * (y 1).val = _; omega
  have hy : (y 0).val < 128 := (y 0).isLt
  unfold ownOf
  rw [dif_pos (by rw [h0]; exact hy)]
  refine congrArg (loOf x wq wo wk wv) ?_
  funext a
  refine Fin.ext ?_
  revert a
  exact Fin.forall_fin_two.mpr ⟨h0, h1⟩

end Own

/-! ## The receive buffer, window by window -/

/-- What no window covers. -/
def restW : Finset SB.Idx := Finset.univ \ Finset.univ.biUnion fun p : Fin 3 × Fin 3 => win p.1 p.2

/-- The nine windows and the rest. -/
def pieces (k : Fin 10) : Finset SB.Idx := if k.val < 9 then win (Fin.ofNat 3 (k.val / 3)) (Fin.ofNat 3 (k.val % 3)) else restW

theorem pieces_disjoint : ∀ p ∈ (Finset.univ : Finset (Fin 10)), ∀ p' ∈ (Finset.univ : Finset (Fin 10)), p ≠ p' → Disjoint (pieces p) (pieces p') := by
  have hr : ∀ r s : Fin 3, Disjoint restW (win r s) := fun r s =>
    Finset.disjoint_of_subset_right (Finset.subset_biUnion_of_mem (fun p : Fin 3 × Fin 3 => win p.1 p.2) (Finset.mem_univ (r, s))) Finset.sdiff_disjoint
  have key : ∀ p p' : Fin 10, p.val < 9 → p'.val < 9 → p ≠ p' →
      ((Fin.ofNat 3 (p.val / 3), Fin.ofNat 3 (p.val % 3)) : Fin 3 × Fin 3) ≠ (Fin.ofNat 3 (p'.val / 3), Fin.ofNat 3 (p'.val % 3)) := by decide
  intro p _ p' _ h
  unfold pieces
  by_cases h1 : p.val < 9 <;> by_cases h2 : p'.val < 9
  · rw [if_pos h1, if_pos h2]; exact win_disjoint _ _ (key p p' h1 h2 h)
  · rw [if_pos h1, if_neg h2]; exact (hr _ _).symm
  · rw [if_neg h1, if_pos h2]; exact hr _ _
  · exact absurd (Fin.ext (by omega)) h

theorem pieces_all : Finset.univ.biUnion pieces = (Finset.univ : Finset SB.Idx) := by
  have key : ∀ r s : Fin 3, ∃ k : Fin 10, k.val < 9 ∧ Fin.ofNat 3 (k.val / 3) = r ∧ Fin.ofNat 3 (k.val % 3) = s := by decide
  refine Finset.eq_univ_of_forall fun i => Finset.mem_biUnion.mpr ?_
  by_cases h : i ∈ Finset.univ.biUnion fun p : Fin 3 × Fin 3 => win p.1 p.2
  · obtain ⟨⟨r, s⟩, -, hp⟩ := Finset.mem_biUnion.mp h
    obtain ⟨k, hk, rfl, rfl⟩ := key r s
    exact ⟨k, Finset.mem_univ _, by unfold pieces; rw [if_pos hk]; exact hp⟩
  · exact ⟨9, Finset.mem_univ _, Finset.mem_sdiff.mpr ⟨Finset.mem_univ _, h⟩⟩

theorem pieces_all' (inst : DecidableEq SB.Idx) : @Finset.biUnion _ _ inst Finset.univ pieces = (Finset.univ : Finset SB.Idx) := by
  convert pieces_all

theorem bigSep_pieces (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

set_option maxRecDepth 16000 in
/-- The whole receive buffer is what the three partners will write, and the rest. -/
theorem recv_open (c : Dev nD) (f : Cont F) :
    winP c Finset.univ f ⊢ iprop((windows c 0 ∗ windows c 1 ∗ windows c 2) ∗ ∃ f, winP c restW f) := by
  have h : winP c Finset.univ f = bigSep Finset.univ fun p => winP c (pieces p) f := by
    unfold winP
    have h1 := pointsTo_biUnion (ℓ := (c : Thread nD τ).loc cc0_scratch1) (q := fullShare) (f := f) (Val := Elt F) (Ix := Unit) (Name := ℕ) (U := UU) (Lvl := ℕ) Finset.univ pieces pieces_disjoint
    refine Eq.trans (Eq.symm ?_) h1
    exact congrArg (fun I => (((c : Thread nD τ).loc cc0_scratch1) ↦[I]{fullShare} f : sProp 𝕄)) (pieces_all' _)
  rw [h, bigSep_pieces]
  unfold windows
  iintro ⟨H00, H01, H02, H10, H11, H12, H20, H21, H22, H⟩
  isplitr [H]
  · isplitl [H00 H21 H12]
    · isplitl [H00]; · iexists f; iexact H00
      isplitl [H21]; · iexists f; iexact H21
      iexists f; iexact H12
    isplitl [H10 H01 H22]
    · isplitl [H10]; · iexists f; iexact H10
      isplitl [H01]; · iexists f; iexact H01
      iexists f; iexact H22
    isplitl [H20]; · iexists f; iexact H20
    isplitl [H11]; · iexists f; iexact H11
    iexists f; iexact H02
  iexists f; iexact H

/-- All the windows back, with the rest: the whole buffer. -/
theorem recv_close (c : Dev nD) :
    iprop((∃ f, winP c (win 0 0) f) ∗ (∃ f, winP c (win 0 1) f) ∗ (∃ f, winP c (win 0 2) f) ∗ (∃ f, winP c (win 1 0) f) ∗ (∃ f, winP c (win 1 1) f) ∗ (∃ f, winP c (win 1 2) f) ∗ (∃ f, winP c (win 2 0) f) ∗ (∃ f, winP c (win 2 1) f) ∗ (∃ f, winP c (win 2 2) f) ∗ ∃ f, winP c restW f) ⊢ iprop(∃ f, winP c Finset.univ f : sProp 𝕄) := by
  have h : iprop((∃ f, winP c (win 0 0) f) ∗ (∃ f, winP c (win 0 1) f) ∗ (∃ f, winP c (win 0 2) f) ∗ (∃ f, winP c (win 1 0) f) ∗ (∃ f, winP c (win 1 1) f) ∗ (∃ f, winP c (win 1 2) f) ∗ (∃ f, winP c (win 2 0) f) ∗ (∃ f, winP c (win 2 1) f) ∗ (∃ f, winP c (win 2 2) f) ∗ ∃ f, winP c restW f)
      = bigSep Finset.univ fun p => iprop(∃ f, winP c (pieces p) f : sProp 𝕄) := (bigSep_pieces fun p => iprop(∃ f, winP c (pieces p) f : sProp 𝕄)).symm
  iintro ⟨⟨%f, H⟩, Hs⟩
  haveI : Nonempty (Cont F) := ⟨f⟩
  ihave H := ((Entails.of_eq h).trans (BI.bigSep_exists_pi Finset.univ (fun p (f : Cont F) => (winP c (pieces p) f : sProp 𝕄)))) $$ [H Hs]
  · isplitl [H]; · iexists f; iexact H
    iexact Hs
  icases H with ⟨%fs, H⟩
  unfold winP
  ihave H' := (pointsTo_biUnion_join Finset.univ pieces fs f pieces_disjoint) $$ H
  icases H' with ⟨%g, -, H⟩
  iexists g
  iapply (Entails.of_eq (congrArg (fun I => (((c : Thread nD τ).loc cc0_scratch1) ↦[I]{fullShare} g : sProp 𝕄)) (pieces_all' _))); iexact H

/-! ## The exchanges' tokens -/

/-- The tokens, positions and credits of a rail's exchanges at one stage. -/
def kit (c : Dev nD) (r s : Fin 3) : sProp 𝕄 := iprop((unsent c r (ph s) ∗ openS c r (ph s) ∗ openR c r (ph s)) ∗ upPart c r s)
/-- Their four cells, back at zero. -/
def zeros (c : Dev nD) (r s : Fin 3) : sProp 𝕄 :=
  iprop((semVal (sendC c r (ph s)) 0 ∗ semVal (recvC c r (ph s)) 0) ∗ semVal (sendC c r (ag s)) 0 ∗ semVal (recvC c r (ag s)) 0)

theorem kit_pre (c : Dev nD) (r s k : Fin 3) (hk : dir r s = k) : iprop(kit c r s ∗ ∃ f, winP (peer k c) (win r s) f) ⊢ (pre c r s : sProp 𝕄) := by
  subst hk; unfold kit pre
  iintro ⟨⟨H1, H2⟩, H3⟩
  isplitl [H1]; · iexact H1
  isplitl [H2] <;> iassumption

theorem done_zeros (c : Dev nD) (r s : Fin 3) : (done c r s : sProp 𝕄) ⊢ iprop(zeros c r s ∗ ∃ f, winP c (win r s) f) := by
  unfold done closed zeros
  iintro ⟨⟨H1, H2⟩, H3, H4⟩
  isplitl [H1 H3 H4]
  · isplitl [H1]; · iexact H1
    isplitl [H3] <;> iassumption
  iexact H2

/-- Nine of a kind. -/
def nine (Φ : Fin 3 → Fin 3 → sProp 𝕄) : sProp 𝕄 := iprop(Φ 0 0 ∗ Φ 0 1 ∗ Φ 0 2 ∗ Φ 1 0 ∗ Φ 1 1 ∗ Φ 1 2 ∗ Φ 2 0 ∗ Φ 2 1 ∗ Φ 2 2)

/-! ## The stretches that only compute -/

/-- A stretch that only computes. -/
theorem part4_run (c : Dev nD) (v63 : FVec F S256x1024 .f32) (v66 : FVec F S256x1024 .f32) (v69 : FVec F S256x1024 .f32) (v104 : FVec F S128x128 .f32) (Q : (Σ' (v120 : FVec F S128x128 .f32) (v137 : FVec F S128x128 .f32) (v148 : FVec F S128x256 .f32), FVec F S128x1 .f32) → sProp 𝕄) :
    Q ⟨k0_pay9 v63 v66 v104, k0_pay10 v63 v66 v69, k0_pay11 v63 v69, k0_pay12 v63 v69⟩
      ⊢ wp frame (wpE (defs₀ (F := F)) 𝒱₀ (c : Thread nD τ) none) Set.univ (k0_part4 (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 v63 v66 v69 v104) Q := by
  rw [k0_part4_eq_skeleton]; unfold k0_part4_skel
  simp only [Prog.lift, Prog.bind_op, Prog.bind_ret, Prog.pure_eq_ret]
  rw [wp_ret]
  iintro H
  imodintro
  iexact H

/-- A stretch that only computes. -/
theorem part5_run (c : Dev nD) (v63 : FVec F S256x1024 .f32) (v66 : FVec F S256x1024 .f32) (v69 : FVec F S256x1024 .f32) (v148 : FVec F S128x256 .f32) (v150 : FVec F S128x1 .f32) (Q : (Σ' (v154 : FVec F S128x128 .f32) (v171 : FVec F S128x128 .f32) (v188 : FVec F S128x128 .f32) (v194 : FVec F S128x256 .f32), FVec F S128x1 .f32) → sProp 𝕄) :
    Q ⟨k0_pay13 v66 v148 v150, k0_pay14 v63 v66 v69, k0_pay15 v63 v66 v69, k0_pay16 v63 v69, k0_pay17 v63 v69⟩
      ⊢ wp frame (wpE (defs₀ (F := F)) 𝒱₀ (c : Thread nD τ) none) Set.univ (k0_part5 (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 v63 v66 v69 v148 v150) Q := by
  rw [k0_part5_eq_skeleton]; unfold k0_part5_skel
  simp only [Prog.lift, Prog.bind_op, Prog.bind_ret, Prog.pure_eq_ret]
  rw [wp_ret]
  iintro H
  imodintro
  iexact H

/-- A stretch that only computes. -/
theorem part7_run (c : Dev nD) (v63 : FVec F S256x1024 .f32) (v66 : FVec F S256x1024 .f32) (v69 : FVec F S256x1024 .f32) (v233 : FVec F S128x256 .f32) (v235 : FVec F S128x1 .f32) (Q : (Σ' (v239 : FVec F S128x128 .f32) (v256 : FVec F S128x128 .f32) (v273 : FVec F S128x128 .f32) (v279 : FVec F S128x256 .f32), FVec F S128x1 .f32) → sProp 𝕄) :
    Q ⟨k0_pay21 v66 v233 v235, k0_pay22 v63 v66 v69, k0_pay23 v63 v66 v69, k0_pay24 v63 v69, k0_pay25 v63 v69⟩
      ⊢ wp frame (wpE (defs₀ (F := F)) 𝒱₀ (c : Thread nD τ) none) Set.univ (k0_part7 (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 v63 v66 v69 v233 v235) Q := by
  rw [k0_part7_eq_skeleton]; unfold k0_part7_skel
  simp only [Prog.lift, Prog.bind_op, Prog.bind_ret, Prog.pure_eq_ret]
  rw [wp_ret]
  iintro H
  imodintro
  iexact H

/-- A stretch that only computes. -/
theorem part8_run (c : Dev nD) (v63 : FVec F S256x1024 .f32) (v66 : FVec F S256x1024 .f32) (v69 : FVec F S256x1024 .f32) (v279 : FVec F S128x256 .f32) (v281 : FVec F S128x1 .f32) (Q : (Σ' (v290 : FVec F S128x128 .f32) (v307 : FVec F S128x128 .f32) (v324 : FVec F S128x128 .f32), FVec F S128x256 .f32) → sProp 𝕄) :
    Q ⟨k0_pay26 v66 v279 v281, k0_pay27 v63 v66 v69, k0_pay28 v63 v66 v69, k0_pay29 v63 v69⟩
      ⊢ wp frame (wpE (defs₀ (F := F)) 𝒱₀ (c : Thread nD τ) none) Set.univ (k0_part8 (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 v63 v66 v69 v279 v281) Q := by
  rw [k0_part8_eq_skeleton]; unfold k0_part8_skel
  simp only [Prog.lift, Prog.bind_op, Prog.bind_ret, Prog.pure_eq_ret]
  rw [wp_ret]
  iintro H
  imodintro
  iexact H

/-! ## The whole body -/

set_option maxHeartbeats 1600000 in
set_option maxRecDepth 16000 in
/-- A device's run: from its tokens, the whole buffers and its inputs to the result, everything else handed back. -/
theorem body_run (c : Dev nD) (x : Vec F S1x256x1024 .f32) (wq wo wk wv : Vec F S1024x1024 .f32) (hP : P c = ownOf x wq wo wk wv) (Q : PUnit → sProp 𝕄) :
    iprop(records P K ∗ levAts L lv ∗ bars c ∗ nine (kit c) ∗ (∃ f, accP c Finset.univ f) ∗ (∃ f, winP c Finset.univ f) ∗ ow c (O₀ c)
        ∗ stg c cc0_stg0_0 x ∗ stg c cc0_stg1_0 wq ∗ stg c cc0_stg2_0 wo ∗ stg c cc0_stg3_0 wk ∗ stg c cc0_stg4_0 wv ∗ ∃ f, stg c cc0_stg5_0 f)
      ⊢ iprop(((semVal (barC c) 0 ∗ nine (zeros c) ∗ (∃ f, accP c Finset.univ f) ∗ (∃ f, winP c Finset.univ f) ∗ ow c 0
            ∗ stg c cc0_stg0_0 x ∗ stg c cc0_stg1_0 wq ∗ stg c cc0_stg2_0 wo ∗ stg c cc0_stg3_0 wk ∗ stg c cc0_stg4_0 wv ∗ stg c cc0_stg5_0 (k0_pay1 (fin P))) -∗ Q ⟨⟩)
        -∗ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3) Q) := by
  rw [cc0_body_eq_skeleton]; unfold cc0_body_skel
  simp only [Prog.lift, Prog.bind_op, Prog.bind_ret, Prog.pure_eq_ret]
  unfold nine
  have hhi := fun y => (congrFun hP _).trans (ownOf_hi x wq wo wk wv y)
  have hlo := fun y => (congrFun hP _).trans (ownOf_lo x wq wo wk wv y)
  unfold hiOf keys vals qrys at hhi
  unfold loOf keys vals qrys at hlo
  iintro ⟨#HR, #Hlev, Hb, ⟨H00, H01, H02, H10, H11, H12, H20, H21, H22⟩, ⟨%fa, Ha⟩, ⟨%fw, Hw⟩, HO, G0, G1, G2, G3, G4, ⟨%f5, G5⟩⟩ Hk
  -- the receive buffer, window by window; the handshake trades the windows
  ihave Hw' := (recv_open c fw) $$ Hw
  icases Hw' with ⟨Hw, Hrest⟩
  rw [wp_bind]
  iapply (part1_run P K c _) $$ [Hb Hw HO]
  · isplitr; · iexact HR
    isplitr; · iexact Hlev
    isplitl [Hb]; · iexact Hb
    isplitl [Hw] <;> iassumption
  iintro %v2 %v3 %v5 %v7 %v8 %v9 %v20 %v22 %v24 %v27 ⟨Hz, Hw, HO⟩
  unfold windows
  icases Hw with ⟨⟨W00, W21, W12⟩, ⟨W10, W01, W22⟩, ⟨W20, W11, W02⟩⟩
  ihave H00 := (kit_pre c 0 0 0 rfl) $$ [H00 W00]
  · isplitl [H00]; · iexact H00
    iexact W00
  ihave H01 := (kit_pre c 0 1 1 rfl) $$ [H01 W01]
  · isplitl [H01]; · iexact H01
    iexact W01
  ihave H02 := (kit_pre c 0 2 2 rfl) $$ [H02 W02]
  · isplitl [H02]; · iexact H02
    iexact W02
  ihave H10 := (kit_pre c 1 0 1 rfl) $$ [H10 W10]
  · isplitl [H10]; · iexact H10
    iexact W10
  ihave H11 := (kit_pre c 1 1 2 rfl) $$ [H11 W11]
  · isplitl [H11]; · iexact H11
    iexact W11
  ihave H12 := (kit_pre c 1 2 0 rfl) $$ [H12 W12]
  · isplitl [H12]; · iexact H12
    iexact W12
  ihave H20 := (kit_pre c 2 0 2 rfl) $$ [H20 W20]
  · isplitl [H20]; · iexact H20
    iexact W20
  ihave H21 := (kit_pre c 2 1 0 rfl) $$ [H21 W21]
  · isplitl [H21]; · iexact H21
    iexact W21
  ihave H22 := (kit_pre c 2 2 1 rfl) $$ [H22 W22]
  · isplitl [H22]; · iexact H22
    iexact W22
  -- the accumulator's two halves
  ihave Ha := (Entails.of_eq (show accP c Finset.univ fa = accP c (rows 0 128 ∪ rows 128 128) fa from by rw [← rows_halves, rows_all])) $$ Ha
  ihave Ha' := (show accP c (rows 0 128 ∪ rows 128 128) fa ⊢ iprop(accP c (rows 0 128) fa ∗ accP c (rows 128 128) fa) from (pointsTo_union rows_halves_disjoint).1) $$ Ha
  icases Ha' with ⟨Halo, Hahi⟩
  -- the product
  rw [wp_bind]
  iapply (part2_run c _ _ _ _ _ _ _ x wk _) $$ [G0 G3]
  · isplitl [G0] <;> iassumption
  iintro %v33 %v35 %v37 %v46 %v48 %v50 ⟨G0, G3⟩
  rw [wp_bind]
  iapply (part3_run c _ wk wq wv _) $$ [G4 G1]
  · isplitl [G4] <;> iassumption
  iintro ⟨G4, G1⟩
  rw [wp_bind]
  iapply (part4_run c _ _ _ _ _)
  rw [wp_bind]
  iapply (part5_run c _ _ _ _ _ _)
  rw [wp_bind]
  iapply (part6_run P K c _ _ _ _ _ _ _ _ _ _ _ _ _ _ _ _ wo hhi _) $$ [G2 Hahi H00 H10 H20 HO]
  · isplitr; · iexact HR
    isplitl [G2]; · iexact G2
    isplitl [Hahi]; · iexists fa; iexact Hahi
    isplitl [H00]; · iexact H00
    isplitl [H10]; · iexact H10
    isplitl [H20]; · iexact H20
    iexact HO
  iintro ⟨G2, H00, H10, H20, HO⟩
  rw [wp_bind]
  iapply (part7_run c _ _ _ _ _ _)
  rw [wp_bind]
  iapply (part8_run c _ _ _ _ _ _)
  rw [wp_bind]
  iapply (part9_run P K c _ _ _ _ _ _ _ _ _ _ _ _ wo hlo _) $$ [G2 Halo H00 HO]
  · isplitr; · iexact HR
    isplitl [G2]; · iexact G2
    isplitl [Halo]; · iexists fa; iexact Halo
    isplitl [H00]; · iexact H00
    iexact HO
  iintro %w9 ⟨G2, H00, X0, X1, X2, HO⟩
  rw [wp_bind]
  iapply (part10_run P K c _ _ _ _ _ _) $$ [H00 X0 H10 X1 H20 X2 HO]
  · isplitr; · iexact HR
    isplitr; · iexact Hlev
    isplitl [H00]; · iexact H00
    isplitl [X0]; · iexact X0
    isplitl [H10]; · iexact H10
    isplitl [X1]; · iexact X1
    isplitl [H20]; · iexact H20
    isplitl [X2]; · iexact X2
    iexact HO
  iintro ⟨H00, X0, H10, X1, H20, X2, HO⟩
  rw [wp_bind]
  iapply (part11_run P K c _ _ _) $$ [H01 X0 H10 X1 HO]
  · isplitr; · iexact HR
    isplitr; · iexact Hlev
    isplitl [H01]; · iexact H01
    isplitl [X0]; · iexact X0
    isplitl [H10]; · iexact H10
    isplitl [X1]; · iexact X1
    iexact HO
  iintro ⟨H01, X0, H10, X1, HO⟩
  rw [wp_bind]
  iapply (part12_run P K c _ _ _) $$ [H11 X1 H20 X2 HO]
  · isplitr; · iexact HR
    isplitr; · iexact Hlev
    isplitl [H11]; · iexact H11
    isplitl [X1]; · iexact X1
    isplitl [H20]; · iexact H20
    isplitl [X2]; · iexact X2
    iexact HO
  iintro ⟨H11, X1, H20, X2, HO⟩
  rw [wp_bind]
  iapply (part13_run P K c _ _ _) $$ [H21 X2 H01 X0 HO]
  · isplitr; · iexact HR
    isplitr; · iexact Hlev
    isplitl [H21]; · iexact H21
    isplitl [X2]; · iexact X2
    isplitl [H01]; · iexact H01
    isplitl [X0]; · iexact X0
    iexact HO
  iintro ⟨H21, X2, H01, X0, HO⟩
  rw [wp_bind]
  iapply (part14_run P K c _ _ _) $$ [H02 X0 H11 X1 HO]
  · isplitr; · iexact HR
    isplitr; · iexact Hlev
    isplitl [H02]; · iexact H02
    isplitl [X0]; · iexact X0
    isplitl [H11]; · iexact H11
    isplitl [X1]; · iexact X1
    iexact HO
  iintro ⟨H02, X0, H11, X1, HO⟩
  rw [wp_bind]
  iapply (part15_run P K c _ _ _) $$ [H12 X1 H21 X2 H22 HO]
  · isplitr; · iexact HR
    isplitr; · iexact Hlev
    isplitl [H12]; · iexact H12
    isplitl [X1]; · iexact X1
    isplitl [H21]; · iexact H21
    isplitl [X2]; · iexact X2
    isplitl [H22]; · iexact H22
    iexact HO
  iintro ⟨H12, X1, H21, X2, H22, HO⟩
  rw [wp_bind]
  iapply (part16_run P K c _ _ _ _) $$ [H02 X0 HO]
  · isplitr; · iexact HR
    isplitr; · iexact Hlev
    isplitl [H02]; · iexact H02
    isplitl [X0]; · iexact X0
    iexact HO
  iintro %w16 ⟨H02, HO⟩
  rw [wp_bind]
  iapply (part17_run P K c _ _ _ _) $$ [H12 X1 HO]
  · isplitr; · iexact HR
    isplitr; · iexact Hlev
    isplitl [H12]; · iexact H12
    isplitl [X1]; · iexact X1
    iexact HO
  iintro %w17 ⟨H12, HO⟩
  rw [wp_bind]
  iapply (part18_run P K c _ _ _ _) $$ [H22 X2 HO]
  · isplitr; · iexact HR
    isplitr; · iexact Hlev
    isplitl [H22]; · iexact H22
    isplitl [X2]; · iexact X2
    iexact HO
  iintro %w18 ⟨H22, HO⟩
  rw [wp_bind]
  iapply (part19_run P K c _ _ _) $$ [H02 H01 H12 HO]
  · isplitr; · iexact HR
    isplitr; · iexact Hlev
    isplitl [H02]; · iexact H02
    isplitl [H01]; · iexact H01
    isplitl [H12]; · iexact H12
    iexact HO
  iintro %w19 ⟨H02, H01, H12, X1, HO⟩
  rw [wp_bind]
  iapply (part20_run P K c _ _ _) $$ [H11 X1 H22 H21 HO]
  · isplitr; · iexact HR
    isplitr; · iexact Hlev
    isplitl [H11]; · iexact H11
    isplitl [X1]; · iexact X1
    isplitl [H22]; · iexact H22
    isplitl [H21]; · iexact H21
    iexact HO
  iintro %w20 ⟨H11, H22, H21, HO⟩
  rw [wp_bind]
  iapply (part21_run P K c _ _ _) $$ [H01 H00 H11 HO]
  · isplitr; · iexact HR
    isplitr; · iexact Hlev
    isplitl [H01]; · iexact H01
    isplitl [H00]; · iexact H00
    isplitl [H11]; · iexact H11
    iexact HO
  iintro ⟨H01, H00, H11, X1, HO⟩
  rw [wp_bind]
  iapply (part22_run P K c _ _) $$ [H11 X1 H10 H21 HO]
  · isplitr; · iexact HR
    isplitr; · iexact Hlev
    isplitl [H11]; · iexact H11
    isplitl [X1]; · iexact X1
    isplitl [H10]; · iexact H10
    isplitl [H21]; · iexact H21
    iexact HO
  iintro ⟨H11, H10, H21, X2, HO⟩
  rw [wp_bind]
  iapply (part23_run P K c _ _) $$ [H20 X2 H00 H10 HO]
  · isplitr; · iexact HR
    isplitr; · iexact Hlev
    isplitl [H20]; · iexact H20
    isplitl [X2]; · iexact X2
    isplitl [H00]; · iexact H00
    isplitl [H10]; · iexact H10
    iexact HO
  iintro %w23 ⟨H20, H00, X0, H10, X1, HO⟩
  -- rail 2's last exchange
  iapply (end_ag P K 2 0 c _ _ rfl rfl _ rfl (oweN c 0) (above_zero _) (above_zero _) rfl rfl) $$ [H20 HO]
  · isplitr; · iexact HR
    isplitr; · iexact Hlev
    isplitl [H20]; · iexact H20
    iexact HO
  iintro ⟨H20, X2, HO⟩
  -- the accumulator is whole again
  ihave Ha := (show iprop(Fh P 0 0 c ∗ Fh P 1 0 c ∗ Fh P 2 0 c) ⊢ accP c Finset.univ (fin P) from
    Entails.of_eq (((accP_rows c 0 256 (fin P)).symm).trans (by rw [rows_all]))) $$ [X0 X1 X2]
  · isplitl [X0]; · iexact X0
    isplitl [X1]; · iexact X1
    iexact X2
  unfold accP stg
  iapply (wp_load 𝒱₀ (c : Thread nD τ) none Set.univ (m := (Memref.whole cc0_scratch0 : Memref sig .tc .vmem S256x1024 .bf16)) (Finset.subset_univ _)) $$ Ha; iintro Ha
  erw [Memref.readAt_unit_zero (Elt F) cc0_scratch0 hz2 _ (fin P)]
  iapply (wp_load 𝒱₀ (c : Thread nD τ) none Set.univ (m := (Memref.whole cc0_stg5_0 : Memref sig .tc .vmem S1x256x1024 .f32)) (Finset.subset_univ _)) $$ G5; iintro G5
  iapply (wp_store 𝒱₀ (c : Thread nD τ) none Set.univ (m := (Memref.whole cc0_stg5_0 : Memref sig .tc .vmem S1x256x1024 .f32))
    (r := Rect.unit (s := S1x256x1024) ![0, 0, 0] S1x256x1024.size inb_S1x256x1024_S1x256x1024_0_0_0) (Mk := Finset.univ) (Finset.subset_univ _)) $$ G5; iintro G5
  erw [Memref.write_access_unit_zero_univ (Elt F) cc0_stg5_0 hz3 _ f5 (k0_pay1 (fin P))]
  rw [wp_ret]; imodintro
  iapply Hk
  ihave H00 := (done_zeros c 0 0) $$ H00
  icases H00 with ⟨H00, W00⟩
  ihave H01 := (done_zeros c 0 1) $$ H01
  icases H01 with ⟨H01, W01⟩
  ihave H02 := (done_zeros c 0 2) $$ H02
  icases H02 with ⟨H02, W02⟩
  ihave H10 := (done_zeros c 1 0) $$ H10
  icases H10 with ⟨H10, W10⟩
  ihave H11 := (done_zeros c 1 1) $$ H11
  icases H11 with ⟨H11, W11⟩
  ihave H12 := (done_zeros c 1 2) $$ H12
  icases H12 with ⟨H12, W12⟩
  ihave H20 := (done_zeros c 2 0) $$ H20
  icases H20 with ⟨H20, W20⟩
  ihave H21 := (done_zeros c 2 1) $$ H21
  icases H21 with ⟨H21, W21⟩
  ihave H22 := (done_zeros c 2 2) $$ H22
  icases H22 with ⟨H22, W22⟩
  isplitl [Hz]; · iexact Hz
  isplitl [H00 H01 H02 H10 H11 H12 H20 H21 H22]
  · isplitl [H00]; · iexact H00
    isplitl [H01]; · iexact H01
    isplitl [H02]; · iexact H02
    isplitl [H10]; · iexact H10
    isplitl [H11]; · iexact H11
    isplitl [H12]; · iexact H12
    isplitl [H20]; · iexact H20
    isplitl [H21]; · iexact H21
    iexact H22
  isplitl [Ha]; · iexists (fin P); iexact Ha
  isplitl [Hrest W00 W01 W02 W10 W11 W12 W20 W21 W22]
  · iapply (recv_close c)
    isplitl [W00]; · iexact W00
    isplitl [W01]; · iexact W01
    isplitl [W02]; · iexact W02
    isplitl [W10]; · iexact W10
    isplitl [W11]; · iexact W11
    isplitl [W12]; · iexact W12
    isplitl [W20]; · iexact W20
    isplitl [W21]; · iexact W21
    isplitl [W22]; · iexact W22
    iexact Hrest
  isplitl [HO]; · iexact HO
  isplitl [G0]; · iexact G0
  isplitl [G1]; · iexact G1
  isplitl [G2]; · iexact G2
  isplitl [G3]; · iexact G3
  isplitl [G4]; · iexact G4
  iexact G5

end Cert.KernelIdeal.Body

end
-- ==== Proof.Ghost.lean ====
/-
# What the launch deals out

Cells, duty tokens and credits of all devices at once, regrouped so that each device holds what its own run consumes:
its positions, the tokens of the duties that it pays (its partners' barriers and receive cells), and the credit of its
own waits.
-/
module

public import proofs.«01_k».proof.Proof.Body

@[expose] public section

noncomputable section

namespace Cert.KernelIdeal.Body

open Cert.KernelIdeal Cert.KernelIdeal.Gen Cert.Butterfly

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (P : Dev nD → Cont F)

/-! ## Index sets -/

/-- A transfer's cells: the side, the rail and the phase. -/
abbrev Xx : Type := Bool × Fin 3 × Fin 6

/-- The scoped semaphores. -/
abbrev osem (x : Xx) : SemLoc sig := ksem (some x)

/-- The two sides apart. -/
theorem bigSep_sides (Φ : Xx → sProp 𝕄) :
    bigSep Finset.univ Φ = bigSep Finset.univ fun rs : Fin 3 × Fin 6 => iprop(Φ (false, rs) ∗ Φ (true, rs)) := by
  rw [bigSep_univ_prod, bigSep_univ_eq_bigSepL [false, true] (by decide) (by decide), bigSep_sep']
  rfl

/-- The barrier apart from the transfers' cells. -/
theorem bigSep_cells (Φ : Kx → sProp 𝕄) : bigSep Finset.univ Φ = iprop(Φ none ∗ bigSep Finset.univ fun x : Xx => Φ (some x)) := by
  rw [bigSep_univ_equiv (Equiv.optionEquivSumPUnit.{0} Xx).symm, bigSep_univ_sum, bigSep_univ_of_subsingleton (I := PUnit.{1}) PUnit.unit]
  show (iprop((bigSep Finset.univ fun x : Xx => Φ (some x)) ∗ Φ none) : sProp 𝕄) = _
  exact BI.Entails.antisymm (show _ ⊢ (_ : sProp 𝕄) from sep_comm.1) (show _ ⊢ (_ : sProp 𝕄) from sep_comm.1)

theorem bigSep_three (Φ : Fin 3 → sProp 𝕄) : bigSep Finset.univ Φ = iprop(Φ 0 ∗ Φ 1 ∗ Φ 2) :=
  bigSep_univ_eq_bigSepL [0, 1, 2] (by decide) (by decide) Φ

/-- A stage and its direction give the phase. -/
def phases : (Fin 3 × Fin 3) ⊕ (Fin 3 × Fin 3) → Fin 3 × Fin 6
  | .inl (r, s) => (r, ph s)
  | .inr (r, s) => (r, ag s)

/-- Both phases of every stage are all the phases. -/
def phasesEquiv : (Fin 3 × Fin 3) ⊕ (Fin 3 × Fin 3) ≃ Fin 3 × Fin 6 := Equiv.ofBijective phases (by decide)

/-- So nine pairs of phases are all transfers. -/
theorem nine_eq (Φ : Fin 3 × Fin 6 → sProp 𝕄) :
    nine (fun r s => iprop(Φ (r, ph s) ∗ Φ (r, ag s))) = bigSep Finset.univ Φ := by
  rw [bigSep_univ_equiv phasesEquiv, bigSep_univ_sum]
  show _ = (iprop((bigSep Finset.univ fun a : Fin 3 × Fin 3 => Φ (a.1, ph a.2)) ∗ bigSep Finset.univ fun a : Fin 3 × Fin 3 => Φ (a.1, ag a.2)) : sProp 𝕄)
  rw [← bigSep_sep',
    bigSep_univ_eq_bigSepL [(0, 0), (0, 1), (0, 2), (1, 0), (1, 1), (1, 2), (2, 0), (2, 1), (2, 2)] (by decide) (by decide)]
  rfl

/-- All transfers in program order. -/
theorem bigSep_order (Φ : Fin 3 × Fin 6 → sProp 𝕄) :
    bigSep Finset.univ Φ = bigSep (Finset.range 18) fun n => Φ (Fin.ofNat 3 ((17 - n) % 3), Fin.ofNat 6 ((17 - n) / 3)) := by
  rw [bigSep_eq_bigSepL_of_eq (List.range 18) (by decide) (by decide),
    bigSep_univ_eq_bigSepL ((List.range 18).map fun n => (Fin.ofNat 3 ((17 - n) % 3), Fin.ofNat 6 ((17 - n) / 3))) (by decide) (by decide)]
  rfl

/-! ## Cells and tokens -/

theorem ksem_injective : Function.Injective ksem := by
  intro a b h
  rcases a with _ | ⟨_ | _, r, st⟩ <;> rcases b with _ | ⟨_ | _, r', st'⟩ <;> first | rfl | skip
  all_goals first
    | exact absurd h (by intro h'; cases h')
    | (have h' : dec _ = dec _ := congrArg dec (SemLoc.dma.inj h)
       simp only [dec_send, dec_recv] at h'
       first | exact h' | exact absurd h' (by simp))

theorem kcell_injective : Function.Injective (kcell : Dev nD × Kx → GSem nD τ sig) := by
  rintro ⟨c, k⟩ ⟨c', k'⟩ h
  have h1 : c = c' := congrArg (fun g : GSem nD τ sig => g.1.1) h
  have h2 : k = k' := ksem_injective (congrArg Prod.snd h)
  rw [h1, h2]

/-- The duties: three on each barrier, one on each other cell. -/
abbrev Tx : Type := Fin 3 ⊕ Xx

/-- A duty's cell and number. -/
def tokOf (ct : Dev nD × Tx) : GSem nD τ sig × ℕ × Fin 3 :=
  match ct.2 with
  | .inl k => (kcell (ct.1, none), 0, k)
  | .inr x => (kcell (ct.1, some x), 0, 0)

theorem tokOf_injective : Function.Injective tokOf := by
  rintro ⟨c, t⟩ ⟨c', t'⟩ h
  rcases t with k | x <;> rcases t' with k' | x'
  · have h1 := congrArg (fun y : GSem nD τ sig × ℕ × Fin 3 => y.1.1.1) h
    have h2 := congrArg (fun y : GSem nD τ sig × ℕ × Fin 3 => y.2.2) h
    exact Prod.ext h1 (congrArg Sum.inl h2)
  · have := kcell_injective (congrArg Prod.fst h)
    exact absurd (congrArg Prod.snd this) (by intro h'; cases h')
  · have := kcell_injective (congrArg Prod.fst h)
    exact absurd (congrArg Prod.snd this) (by intro h'; cases h')
  · have := kcell_injective (congrArg Prod.fst h)
    have h1 := congrArg Prod.fst this
    have h2 := congrArg Prod.snd this
    exact Prod.ext h1 (congrArg Sum.inr (Option.some.inj h2))

/-- The barrier's duties apart from the others. -/
theorem bigSep_duties (Φ : Tx → sProp 𝕄) :
    bigSep Finset.univ Φ = iprop((bigSep Finset.univ fun k : Fin 3 => Φ (.inl k)) ∗ bigSep Finset.univ fun x : Xx => Φ (.inr x)) :=
  bigSep_univ_sum Φ

def allCells : Finset (GSem nD τ sig) := Finset.univ.map ⟨kcell, kcell_injective⟩
def allToks : Finset (GSem nD τ sig × ℕ × Fin 3) := Finset.univ.map ⟨tokOf, tokOf_injective⟩

/-- One duty token. -/
def tok (ct : Dev nD × Tx) : sProp 𝕄 := dutyTok ER (tokOf ct).1 (tokOf ct).2.1 (tokOf ct).2.2

/-- What the launch makes for device `c`'s cells. -/
def G (c : Dev nD) : sProp 𝕄 :=
  iprop((bigSep Finset.univ fun k : Kx => roundState ER (rd P) (kcell (c, k)) 0)
    ∗ (bigSep Finset.univ fun k : Kx => iprop(atPos ER (kcell (c, k)) 0 ∅ 0 ∗ reached ER (kcell (c, k)) 0)) ∗ bigSep Finset.univ fun t : Tx => tok (c, t))

theorem fund_all : BI.own (ER (initOf allCells allToks)) ⊢ (|==> bigSep Finset.univ (G P) : sProp 𝕄) := by
  have hX (Φ : GSem nD τ sig → sProp 𝕄) : bigSep allCells Φ = bigSep Finset.univ fun c : Dev nD => bigSep Finset.univ fun k : Kx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => bigSep Finset.univ fun t : Tx => tok (c, t) := by
    unfold allToks; rw [bigSep_map, bigSep_univ_prod]; rfl
  iintro HX
  imod (Rounds.fund ER (rd P) allCells allToks) $$ HX with ⟨Hst, Hr, Hat, Htok⟩
  imodintro
  ihave Hst' := (Entails.of_eq (hX fun g => roundState ER (rd P) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barC c) 0 := by
  unfold unscopedSems0; rw [bigSep_eq_bigSepL_of_eq [barL] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Kx => semVal (kcell (c, k)) 0 : sProp 𝕄) := by
  rw [unscopedSems0_eq, bigSep_cells]
  unfold Pipeline.ownSems0
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G P c)
      ⊢ |={Set.univ}=> iprop((bigSep Finset.univ fun k => iprop(∃ κ : ℕ, cellInv ER (rd P) κ (kcell (c, k))))
          ∗ (bigSep Finset.univ fun k => iprop(atPos ER (kcell (c, k)) 0 ∅ 0 ∗ reached ER (kcell (c, k)) 0)) ∗ bigSep Finset.univ fun t : Tx => tok (c, t)) := by
  unfold G
  iintro ⟨Hos, Hus, Hst, Hat, Htok⟩
  ihave Hv := (sems0_eq (F := F) c) $$ [Hos Hus]
  · isplitl [Hos] <;> iassumption
  imod (show iprop((bigSep Finset.univ fun k : Kx => semVal (kcell (c, k)) 0) ∗ bigSep Finset.univ fun k : Kx => roundState ER (rd P) (kcell (c, k)) 0)
      ⊢ (|={Set.univ}=> bigSep Finset.univ fun k => iprop(∃ κ : ℕ, cellInv ER (rd P) κ (kcell (c, k))) : sProp 𝕄) from by
        rw [← bigSep_sep']
        exact (bigSep_mono fun k _ => (Rounds.body_intro ER (rd P) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go to the payers -/

/-- Who pays the duty that corresponds on another device's cell. -/
def payer (t : Tx) (c : Dev nD) : Dev nD :=
  match t with
  | .inl k => peer k c
  | .inr (false, _, _) => c
  | .inr (true, r, st) => mate r st c

theorem payer_payer (t : Tx) (c : Dev nD) : payer t (payer t c) = c := by
  rcases t with k | ⟨_ | _, r, st⟩
  · exact peer_peer k c
  · rfl
  · exact mate_mate r st c

/-- The exchange of duties, a permutation. -/
def payEquiv : Dev nD × Tx ≃ Dev nD × Tx :=
  ⟨fun ct => (payer ct.2 ct.1, ct.2), fun ct => (payer ct.2 ct.1, ct.2), fun ct => Prod.ext (payer_payer _ _) rfl, fun ct => Prod.ext (payer_payer _ _) rfl⟩

/-- What stays with device `c`: its positions, and the tokens of the duties that it pays. -/
def linear (c : Dev nD) : sProp 𝕄 :=
  iprop((bigSep Finset.univ fun k : Kx => atPos ER (kcell (c, k)) 0 ∅ 0) ∗ bigSep Finset.univ fun t : Tx => tok (payer t c, t))

theorem toks_around :
    (bigSep Finset.univ fun c : Dev nD => bigSep Finset.univ fun t : Tx => (tok (c, t) : sProp 𝕄))
      = bigSep Finset.univ fun c : Dev nD => bigSep Finset.univ fun t : Tx => tok (payer t c, t) := by
  rw [← bigSep_univ_prod (fun ct : Dev nD × Tx => (tok ct : sProp 𝕄)), bigSep_univ_equiv payEquiv,
    bigSep_univ_prod (fun ct : Dev nD × Tx => (tok (payEquiv ct) : sProp 𝕄))]
  rfl

/-- What device `c` starts its run with, besides credit. -/
def G' (c : Dev nD) : sProp 𝕄 := iprop((∃ K, records P K) ∗ linear c)

theorem deal {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd P) κ (kcell (c, k))))
          ∗ (bigSep Finset.univ fun k => iprop(atPos ER (kcell (c, k)) 0 ∅ 0 ∗ reached ER (kcell (c, k)) 0)) ∗ bigSep Finset.univ fun t : Tx => tok (c, t)) : sProp 𝕄)
      ⊢ bigSep Finset.univ (G' P) := by
  rw [bigSep_sep', bigSep_sep', ← bigSep_univ_prod (fun ck : Dev nD × Kx => iprop(∃ κ : ℕ, cellInv ER (rd P) κ (kcell ck))),
    bigSep_congr (s := Finset.univ) (fun (c : Dev nD) _ => bigSep_sep' Finset.univ (fun k : Kx => (atPos ER (kcell (c, k)) 0 ∅ 0 : sProp 𝕄)) (fun k => reached ER (kcell (c, k)) 0)),
    bigSep_sep', ← bigSep_univ_prod (fun ck : Dev nD × Kx => (reached ER (kcell ck) 0 : sProp 𝕄)), toks_around]
  iintro ⟨HI, ⟨Hat, #HR⟩, Htk⟩
  ihave HK := (BI.bigSep_exists_pi Finset.univ (fun (ck : Dev nD × Kx) (κ : ℕ) => (cellInv ER (rd P) κ (kcell ck) : sProp 𝕄))) $$ HI
  icases HK with ⟨%K, #HI⟩
  iapply (deal (R := records P K) (Φ := linear) fun c _ => show iprop(records P K ∗ linear c) ⊢ G' P c from by
    unfold G'
    iintro ⟨#HR, Hl⟩
    isplitr; · iexists K; iexact HR
    iexact Hl)
  isplitr
  · unfold records; isplitl; · iexact HI
    iexact HR
  · unfold linear
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G P c) : sProp 𝕄)
    ⊢ |={Set.univ}=> bigSep Finset.univ (G' P) :=
  ((bigSep_mono fun c _ => core_alloc P c).trans (bigSep_fupd _ _)).trans (BI.fupd_mono (regroup P))

/-! ## Credits -/

theorem oweN_sum (c : Dev nD) : ∀ n, oweN c n = ∑ k ∈ Finset.range n, owe c (Fin.ofNat 3 ((17 - k) % 3)) (Fin.ofNat 6 ((17 - k) / 3))
  | 0 => rfl
  | n + 1 => by rw [Finset.sum_range_succ, ← oweN_sum c n]; rfl

/-- The credit of the receive cells, -/
theorem cred_recv (c : Dev nD) :
    (Pipeline.launchCred (fun d => oweN d 18) c : sProp 𝕄)
      ⊢ bigSep Finset.univ fun rs : Fin 3 × Fin 6 => cred (tallyAt (recvC c rs.1 rs.2) () (amt rs.1 rs.2)) := by
  rw [funext fun d => oweN_sum d 18, Pipeline.launchCred_sum, bigSep_order]
  exact bigSep_mono fun n _ => Pipeline.launchCred_tallyAt (.dma (recvS _ _)) (mate _ _) (mate _ _) (mate_mate _ _) (mate_mate _ _) () _ c

/-- of one unit on the barrier, -/
theorem cred_bar (k : Fin 3) (c : Dev nD) : (Pipeline.launchCred (fun d => oweBar d k) c : sProp 𝕄) ⊢ cred (tallyAt (barC c) () 1) :=
  Pipeline.launchCred_tallyAt barL (peer k) (peer k) (peer_peer k) (peer_peer k) () 1 c

/-- and of all that the partners owe at launch. -/
theorem creds (c : Dev nD) : (Pipeline.launchCred O₀ c : sProp 𝕄)
    ⊢ iprop(cred (tallyAt (barC c) () 3) ∗ bigSep Finset.univ fun rs : Fin 3 × Fin 6 => cred (tallyAt (recvC c rs.1 rs.2) () (amt rs.1 rs.2))) := by
  have h3 : (tallyAt (barC c) () 3 : CellTallies nD τ sig Unit) = tallyAt (barC c) () 1 + (tallyAt (barC c) () 1 + tallyAt (barC c) () 1) := by
    rw [show (3 : ℕ) = 1 + (1 + 1) from rfl, tallyAt_add, tallyAt_add]
  rw [show (O₀ : Dev nD → CellTallies nD τ sig Unit) = fun d => oweN d 18 + oweBar d 2 + oweBar d 1 + oweBar d 0 from rfl,
    Pipeline.launchCred_add, Pipeline.launchCred_add, Pipeline.launchCred_add, h3]
  iintro ⟨⟨⟨HR, H2⟩, H1⟩, H0⟩
  isplitl [H2 H1 H0]
  · iapply (cred_add _ _).2
    isplitl [H0]; · iapply (cred_bar 0 c); iexact H0
    iapply (cred_add _ _).2
    isplitl [H1]; · iapply (cred_bar 1 c); iexact H1
    iapply (cred_bar 2 c); iexact H2
  · iapply (cred_recv c); iexact HR

/-- A device's start, sorted by stage. -/
theorem sorted (c : Dev nD) :
    iprop(linear c ∗ cred (tallyAt (barC c) () 3) ∗ bigSep Finset.univ fun rs : Fin 3 × Fin 6 => cred (tallyAt (recvC c rs.1 rs.2) () (amt rs.1 rs.2)))
      ⊢ (iprop(bars c ∗ nine (kit c)) : sProp 𝕄) := by
  rw [show (nine (kit c) : sProp 𝕄)
      = bigSep Finset.univ fun rs : Fin 3 × Fin 6 => iprop(unsent c rs.1 rs.2 ∗ openS c rs.1 rs.2 ∗ openR c rs.1 rs.2) from
      nine_eq fun rs : Fin 3 × Fin 6 => iprop(unsent c rs.1 rs.2 ∗ openS c rs.1 rs.2 ∗ openR c rs.1 rs.2)]
  unfold linear unsent openS openR bars tok
  rw [bigSep_duties, bigSep_cells, bigSep_sides, bigSep_sides, bigSep_three]
  simp only [bigSep_sep']
  iintro ⟨⟨⟨HaB, HaS, HaR⟩, ⟨Ht0, Ht1, Ht2⟩, HtS, HtR⟩, HcB, HcR⟩
  isplitl [HaB Ht0 Ht1 Ht2 HcB]
  · isplitl [Ht0 Ht1 Ht2]
    · isplitl [Ht0]; · iexact Ht0
      isplitl [Ht1]; · iexact Ht1
      iexact Ht2
    isplitl [HaB]; · iexact HaB
    iexact HcB
  isplitl [HtS HtR]
  · isplitl [HtS]; · iexact HtS
    iexact HtR
  isplitl [HaS]; · iexact HaS
  isplitl [HaR]; · iexact HaR
  iexact HcR

/-- The counters back at zero, as the launch wants them. -/
theorem zeros_all (c : Dev nD) :
    (nine (zeros c) : sProp 𝕄) ⊢ Pipeline.ownSems0 (Ix := Unit) (Name := ℕ) (U := UU) (Lvl := ℕ) (Val := Elt F) (τ := τ) osem c := by
  rw [show (nine (zeros c) : sProp 𝕄)
      = bigSep Finset.univ fun rs : Fin 3 × Fin 6 => iprop(semVal (sendC c rs.1 rs.2) 0 ∗ semVal (recvC c rs.1 rs.2) 0) from
      nine_eq fun rs : Fin 3 × Fin 6 => iprop(semVal (sendC c rs.1 rs.2) 0 ∗ semVal (recvC c rs.1 rs.2) 0)]
  unfold Pipeline.ownSems0
  rw [bigSep_sides]
  iintro H; iexact H

end Cert.KernelIdeal.Body

end
-- ==== Proof.Run.lean ====
/-
# The run of the whole program

The kernel's body met with its launch: from any memory with all counters at zero every execution of the eight devices
ends, each device's arguments hold what they held, its result holds the finished sum, and all counters are at zero.
-/
module

public import proofs.«01_k».proof.Proof.Ghost
public import proofs.«01_k».proof.Proof.Gen.KernelIdeal.Points
public import Idealize.ShloMosaic.Lib.Pipeline.CollectiveSegs

@[expose] public section

noncomputable section

namespace Cert.KernelIdeal.Body

open Cert.KernelIdeal Cert.KernelIdeal.Gen Cert.Butterfly

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The launch state. -/
def s₀ : MemSt nD τ sig (Elt F) := ⟨m, fun _ => 0, ρ⟩

/-! ## What each device computes with -/

/-- The staged block of `x`, -/
def inX (c : Dev nD) : (cc0_stg0_0 : Ref sig .tc).ty.Contents (Elt F) := (win0_0.blk t0_0).view.read (Elt F) (m ((c : Thread nD τ).loc main_arg0))
/-- of `Wq`, -/
def inQ (c : Dev nD) : (cc0_stg1_0 : Ref sig .tc).ty.Contents (Elt F) := (win0_1.blk t0_0).view.read (Elt F) (m ((c : Thread nD τ).loc main_arg1))
/-- of `Wo`, -/
def inO (c : Dev nD) : (cc0_stg2_0 : Ref sig .tc).ty.Contents (Elt F) := (win0_2.blk t0_0).view.read (Elt F) (m ((c : Thread nD τ).loc main_arg2))
/-- of `Wk`, -/
def inK (c : Dev nD) : (cc0_stg3_0 : Ref sig .tc).ty.Contents (Elt F) := (win0_3.blk t0_0).view.read (Elt F) (m ((c : Thread nD τ).loc main_arg3))
/-- and of `Wv`. -/
def inV (c : Dev nD) : (cc0_stg4_0 : Ref sig .tc).ty.Contents (Elt F) := (win0_4.blk t0_0).view.read (Elt F) (m ((c : Thread nD τ).loc main_arg4))

/-- Each device's partial sum, before any exchange. -/
def own (c : Dev nD) : Cont F := ownOf (inX m c) (inQ m c) (inO m c) (inK m c) (inV m c)

/-- What every device stores. -/
def outAt : (cc0_stg5_0 : Ref sig .tc).ty.Contents (Elt F) := k0_pay1 (fin (own m))

/-! ## The data of the launch -/

/-- What a device starts with, -/
def start (c : Dev nD) : sProp 𝕄 := iprop((∃ K, records (own m) K) ∗ levAts L lv ∗ bars c ∗ nine (kit c))
def Φ₀ (c : Dev nD) : sProp 𝕄 := iprop(start m c ∗ (∃ f, accP c Finset.univ f) ∗ ∃ f, winP c Finset.univ f)
/-- and what it ends with. -/
def Φ₁ (c : Dev nD) : sProp 𝕄 := iprop(semVal (barC c) 0 ∗ nine (zeros c) ∗ (∃ f, accP c Finset.univ f) ∗ ∃ f, winP c Finset.univ f)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => inX m c
    | ⟨1, _⟩ => inQ m c
    | ⟨2, _⟩ => inO m c
    | ⟨3, _⟩ => inK m c
    | ⟨4, _⟩ => inV m c
    | ⟨5, _⟩ => outAt m
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body's obligation -/

theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

/-- Staged contents, up to equality. -/
abbrev stgE (c : Dev nD) (b : Ref sig .tc) (X : b.ty.Contents (Elt F)) : sProp 𝕄 :=
  iprop(∃ f : Buf (Elt F) ((c : Thread nD τ).loc b), ⌜f = X⌝ ∗ stg c b f)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stgE c b X := by
  unfold owns; simp only [Memref.view_whole, View.read_whole, View.set_whole]; rfl

def bodyPre (c : Dev nD) : sProp 𝕄 :=
  iprop(Φ₀ m c ∗ (dats m ρ 0 c).owesAt () t0_0.castSucc
    ∗ (∃ d, stgE c cc0_stg0_0 ((dats m ρ 0 c).before (0 : Fin 6) t0_0 d))
    ∗ (∃ d, stgE c cc0_stg1_0 ((dats m ρ 0 c).before (1 : Fin 6) t0_0 d))
    ∗ (∃ d, stgE c cc0_stg2_0 ((dats m ρ 0 c).before (2 : Fin 6) t0_0 d))
    ∗ (∃ d, stgE c cc0_stg3_0 ((dats m ρ 0 c).before (3 : Fin 6) t0_0 d))
    ∗ (∃ d, stgE c cc0_stg4_0 ((dats m ρ 0 c).before (4 : Fin 6) t0_0 d))
    ∗ (∃ d, stgE c cc0_stg5_0 ((dats m ρ 0 c).before (5 : Fin 6) t0_0 d)))

def bodyPost (c : Dev nD) : sProp 𝕄 :=
  iprop(Φ₁ c ∗ (dats m ρ 0 c).owesAt () t0_0.succ ∗ stgE c cc0_stg0_0 (inX m c) ∗ stgE c cc0_stg1_0 (inQ m c) ∗ stgE c cc0_stg2_0 (inO m c)
    ∗ stgE c cc0_stg3_0 (inK m c) ∗ stgE c cc0_stg4_0 (inV m c) ∗ stgE c cc0_stg5_0 (outAt m))

set_option maxRecDepth 4000 in
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ wp frame (wpE (defs₀ (F := F)) 𝒱₀ (c : Thread nD τ) none) Set.univ
    (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3) (fun _ => bodyPost m ρ c)
  unfold bodyPre Φ₀ start
  iintro ⟨⟨⟨⟨%K, HR⟩, Hl, Hb, Hn⟩, Ha, Hw⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  have e0 : g0 = inX m c := by rw [h0]; unfold Dat.before; rw [if_pos (fetch0_0 t0_0)]; rfl
  have e1 : g1 = inQ m c := by rw [h1]; unfold Dat.before; rw [if_pos (fetch0_1 t0_0)]; rfl
  have e2 : g2 = inO m c := by rw [h2]; unfold Dat.before; rw [if_pos (fetch0_2 t0_0)]; rfl
  have e3 : g3 = inK m c := by rw [h3]; unfold Dat.before; rw [if_pos (fetch0_3 t0_0)]; rfl
  have e4 : g4 = inV m c := by rw [h4]; unfold Dat.before; rw [if_pos (fetch0_4 t0_0)]; rfl
  subst e0 e1 e2 e3 e4
  unfold Dat.owesAt Pipeline.owesWithin
  icases Ho with ⟨%W, %hW, HO⟩
  rw [show (dats m ρ 0 c).owed t0_0.castSucc = O₀ c from rfl]
  iapply (body_run (own m) K c (inX m c) (inQ m c) (inO m c) (inK m c) (inV m c) rfl (fun _ => bodyPost m ρ c)) $$ [HR Hl Hb Hn Ha Hw HO H0 H1 H2 H3 H4 H5]
  · isplitl [HR]; · iexact HR
    isplitl [Hl]; · iexact Hl
    isplitl [Hb]; · iexact Hb
    isplitl [Hn]; · iexact Hn
    isplitl [Ha]; · iexact Ha
    isplitl [Hw]; · iexact Hw
    isplitl [HO]
    · unfold ow; iexists W; iexact HO
    isplitl [H0]; · iexact H0
    isplitl [H1]; · iexact H1
    isplitl [H2]; · iexact H2
    isplitl [H3]; · iexact H3
    isplitl [H4]; · iexact H4
    iexists g5; iexact H5
  iintro ⟨Hz, Hn, Ha, Hw, HO, H0, H1, H2, H3, H4, H5⟩
  unfold bodyPost Φ₁ Dat.owesAt Pipeline.owesWithin ow
  rw [show (dats m ρ 0 c).owed t0_0.succ = 0 from rfl]
  icases HO with ⟨%W', HO⟩
  isplitl [Hz Hn Ha Hw]
  · isplitl [Hz]; · iexact Hz
    isplitl [Hn]; · iexact Hn
    isplitl [Ha]; · iexact Ha
    iexact Hw
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

/-! ## The launch's side conditions -/

theorem ownSemFacts : Pipeline.OwnSemFacts cfg0.spec osem := by decide
theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf allCells allToks)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (own m) c)
      ⊢ |={Set.univ}=> iprop(start m c ∗ emp) := by
  unfold G' start
  iintro ⟨-, Hlev, Hcr, -, HK, Hlin⟩
  ihave Hc := (creds (F := F) c) $$ Hcr
  ihave Hs := (sorted (F := F) c) $$ [Hlin Hc]
  · isplitl [Hlin]; · iexact Hlin
    iexact Hc
  icases Hs with ⟨Hb, Hn⟩
  imodintro
  isplitl
  · isplitl [HK]; · iexact HK
    isplitl [Hlev]; · iexact Hlev
    isplitl [Hb]; · iexact Hb
    iexact Hn
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Ha, Hw⟩
  isplitl [Hs]; · iexact Hs
  isplitl [Ha]; · iexact Ha
  iexact Hw

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁
  iintro ⟨Hz, Hn, Ha, Hw⟩
  isplitl [Hz]; · iexact Hz
  isplitl [Hn]; · iapply (zeros_all c); iexact Hn
  isplitl [Ha]; · iexact Ha
  iexact Hw

theorem above_start (c : Dev nD) : Above 0 (O₀ c) :=
  above_add (above_add (above_add (above_oweN c 18 (le_refl _) (by decide)) (above_tally _ _ _ (by decide))) (above_tally _ _ _ (by decide))) (above_tally _ _ _ (by decide))

theorem waits (c : Dev nD) : (levAts L lv : sProp 𝕄) ⊢ Pipeline.cellsWaits cfgs (dats m ρ) () 0 c :=
  Pipeline.cellsWaits_intro cfgs (dats m ρ) () 0 c fun w s t =>
    mayWait (n := 0) (by fin_cases w <;> fin_cases s <;> decide) (by
      rcases t with ⟨_ | _, ht⟩
      · exact above_start c
      · exact above_zero 0)

/-! ## The run -/

/-- The arrays after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters, every fair execution of the eight devices ends with each
    device's arrays at the stated contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (own m)) (G' := G' (own m)) (u₀ := u₀)
    (hu₀ := by
      unfold u₀
      iintro Hu
      ihave H := (ownU_pair _ _) $$ Hu
      icases H with ⟨HP, HX⟩
      imod (fund_all (own m)) $$ HX with HG
      imodintro
      isplitl [HP] <;> iassumption)
    (hglob := glob (own m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array holds what it held. -/
theorem finalA_in (c : Dev nD) (w : Fin cfg0.W) (h : (cfg0.win w).isOut = false) : finalA m ρ c w = m ((cfg0.win w).arr.view.loc (c : Thread nD τ)) :=
  (dats (F := F) m ρ 0 c).arrAt_in w h _

/-- The frame: every run leaves every argument as it was, and all counters at zero. -/
theorem frame_run : θ_run defs (onTc (τ := τ) (main (F := F))) ⟨m, fun _ => 0, ρ⟩ (fun r => (∀ c : Dev nD,
      r.2.mem ((c.tc : Thread nD τ).loc main_v1) = finalA m ρ c (5 : Fin 6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨h.1 c (5 : Fin 6),
      (h.1 c (0 : Fin 6)).trans (finalA_in m ρ c (0 : Fin 6) rfl), (h.1 c (1 : Fin 6)).trans (finalA_in m ρ c (1 : Fin 6) rfl),
      (h.1 c (2 : Fin 6)).trans (finalA_in m ρ c (2 : Fin 6) rfl), (h.1 c (3 : Fin 6)).trans (finalA_in m ρ c (3 : Fin 6) rfl),
      (h.1 c (4 : Fin 6)).trans (finalA_in m ρ c (4 : Fin 6) rfl)⟩, h.2⟩) (run_main m ρ)

end Cert.KernelIdeal.Body

end
-- ==== Proof.Frames.lean ====
/- The three frames of the certificate: each program ends with its arguments unchanged and every counter at zero. -/
module

public import proofs.«01_k».proof.Defs
public import proofs.«01_k».proof.Proof.Gen.ReferenceIdeal.Run
public import proofs.«01_k».proof.Proof.Run
public import proofs.«01_k».proof.Proof.RunB

@[expose] public section

namespace Cert.Proof

open Idealize.ShloMosaic Idealize.SL.Sem

/-- The kernel's frame: the bit-exact instance of its run, the result dropped. -/
theorem frame_kernel : Cert.quiescent_Kernel := fun m ρ _ =>
  (θ_run Cert.Kernel.defs _ _).mono (fun _ h => ⟨fun c => (h.1 c).2, h.2⟩) (Cert.Kernel.Body.frame_run (F := Bits) m ρ)

/-- The idealized kernel's frame: the ideal instance of its run, the result dropped. -/
theorem frame_kernelIdeal : Cert.quiescent_KernelIdeal := fun m ρ _ =>
  (θ_run Cert.KernelIdeal.defs _ _).mono (fun _ h => ⟨fun c => (h.1 c).2, h.2⟩) (Cert.KernelIdeal.Body.frame_run (F := Ideal) m ρ)

/-- The reference's frame: its run read at the arguments; it declares no semaphore, so no counter can be off zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Heads.lean ====
/- The kernel's own product as eight heads side by side times `Wo`: the printed payloads read as one function of a head. -/
module

public import proofs.«01_k».proof.Proof.Body

@[expose] public section

noncomputable section

namespace Cert.KernelIdeal.Body

open Cert.KernelIdeal Cert.KernelIdeal.Gen Cert.Butterfly
open Idealize.ShloMosaic Idealize.ShloMosaic.TcCoe

variable {F : FTy → Type} [FloatOps F]

/-- One head on 128 query rows, from its queries, keys and values. -/
def headOf (q : FVec F S128x128 .f32) (k v : FVec F S256x128 .f32) : FVec F S128x128 .f32 :=
  have s : FVec F S128x256 .f32 := mulf (matmul dot_S128x128_S128x256_S128x256_1_0_0_1_n_n none q
    (transpose S128x256 [1, 0] k transposes_S256x128_p1_0_S128x256) (constant S128x256 .f32 0x00000000#32)) (broadcast S128x256 (Scalar.ofBits .f32 0x3DB504F3#32))
  have p : FVec F S128x256 .f32 := exp (subf s (broadcastTo S128x256 (shapeCast S128x1
    (multiReduction .maximumf [1] S128 s 0xFF800000#32 reduces_S128x256_S128 (.inl rfl) rfl) shapeCasts_S128_S128x1) broadcasts_S128x1_S128x256))
  matmul dot_S128x256_S256x128_S128x128_1_0_0_1_n_n none (divf p (broadcastTo S128x256 (shapeCast S128x1
    (multiReduction .add [1] S128 p 0x00000000#32 reduces_S128x256_S128 (.inl rfl) rfl) shapeCasts_S128_S128x1) broadcasts_S128x1_S128x256))
    v (constant S128x128 .f32 0x00000000#32)

/-- The query cuts lie in the array. -/
theorem slices_q : ∀ (r : Fin 2) (h : Fin 8), S256x1024.Slices ![128 * r.val, 128 * h.val] S128x128 := by decide
/-- The key and value cuts lie in the array. -/
theorem slices_k : ∀ h : Fin 8, S256x1024.Slices ![0, 128 * h.val] S256x128 := by decide

/-- Head `h` on query rows `128 r` to `128 r + 127`, its columns cut out of the device's queries, keys and values. -/
def headAt (k v q : FVec F S256x1024 .f32) (r : Fin 2) (h : Fin 8) : FVec F S128x128 .f32 :=
  headOf (extractStridedSlice S128x128 ![128 * r.val, 128 * h.val] q (slices_q r h))
    (extractStridedSlice S256x128 ![0, 128 * h.val] k (slices_k h)) (extractStridedSlice S256x128 ![0, 128 * h.val] v (slices_k h))

/-- The eight heads of 128 rows side by side. -/
def wide (k v q : FVec F S256x1024 .f32) (r : Fin 2) : FVec F S128x1024 .f32 :=
  concatenate S128x1024 1 [⟨S128x128, headAt k v q r 0⟩, ⟨S128x128, headAt k v q r 1⟩, ⟨S128x128, headAt k v q r 2⟩, ⟨S128x128, headAt k v q r 3⟩,
    ⟨S128x128, headAt k v q r 4⟩, ⟨S128x128, headAt k v q r 5⟩, ⟨S128x128, headAt k v q r 6⟩, ⟨S128x128, headAt k v q r 7⟩]
    concatenates_S128x128_S128x128_S128x128_S128x128_S128x128_S128x128_S128x128_S128x128_S128x1024_d1

/-- 128 rows of the device's own product. -/
def prod (k v q : FVec F S256x1024 .f32) (wo : Vec F S1024x1024 .f32) (r : Fin 2) : FVec F S128x1024 .bf16 :=
  shapeCast S128x1024 (truncf .bf16 (matmul dot_S128x1024_S1024x1024_S128x1024_1_0_0_1_n_n none (wide k v q r)
    (shapeCast S1024x1024 wo shapeCasts_S1024x1024_S1024x1024) (constant S128x1024 .f32 0x00000000#32)) bitsLt_bf16_f32) shapeCasts_S128x1024_S128x1024

variable (x : Vec F S1x256x1024 .f32) (wq wo wk wv : Vec F S1024x1024 .f32)

set_option maxHeartbeats 1000000 in
/-- The printed upper rows are the eight heads times `Wo`, -/
theorem hiOf_eq : hiOf x wq wo wk wv = prod (keys x wk) (vals x wv) (qrys x wq) wo 1 := rfl

set_option maxHeartbeats 1000000 in
/-- and so are the lower rows. -/
theorem loOf_eq : loOf x wq wo wk wv = prod (keys x wk) (vals x wv) (qrys x wq) wo 0 := rfl

end Cert.KernelIdeal.Body

end
-- ==== Proof.Softmax.lean ====
/- One row of attention over the extended reals, in the two orders of division that the kernel and the reference use, and
   the conditions under which they agree. -/
module

public import Idealize.ShloMosaic.PureOps.Ideal

@[expose] public section

noncomputable section

namespace Cert.Attn

open Idealize.ShloMosaic
open scoped BigOperators

/-- The word of minus infinity. -/
theorem ofBits_bot : Ideal.ofBits .f32 0xFF800000#32 = ⊥ := by
  have h1 : (0xFF800000#32 : BitVec 32).extractLsb' 31 1 = 1#1 := by decide
  have h2 : ((0xFF800000#32 : BitVec 32).extractLsb' 23 8).toNat = 255 := by decide
  have h3 : ((0xFF800000#32 : BitVec 32).extractLsb' 0 23).toNat = 0 := by decide
  simp [Ideal.ofBits, Ideal.ieee, h1, h2, h3]

/-- An extended real that is a real. -/
def IsReal (x : EReal) : Prop := ∃ r : ℝ, x = (r : EReal)

/-- A real number is one. -/
theorem isReal_coe (r : ℝ) : IsReal (r : EReal) := ⟨r, rfl⟩
theorem IsReal.mul {x y : EReal} : IsReal x → IsReal y → IsReal (x * y) := fun ⟨a, ha⟩ ⟨b, hb⟩ => ⟨a * b, by rw [ha, hb, EReal.coe_mul]⟩
theorem IsReal.add {x y : EReal} : IsReal x → IsReal y → IsReal (x + y) := fun ⟨a, ha⟩ ⟨b, hb⟩ => ⟨a + b, by rw [ha, hb, EReal.coe_add]⟩

/-- A finite sum of real numbers is one. -/
theorem isReal_sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- The greatest score of a row, from `⊥`. -/
def top (s : Fin 256 → EReal) : EReal := Finset.univ.fold max ⊥ s
/-- The weight of key `j` before division. -/
def weight (s : Fin 256 → EReal) (j : Fin 256) : EReal := Ideal.exp (s j - top s)
/-- The kernel's order: each weight is divided, then the values are weighed. -/
def soft (s v : Fin 256 → EReal) : EReal := ∑ j, Ideal.div (weight s j) (∑ j', weight s j') * v j
/-- The reference's order: the values are weighed, then the sum is divided. -/
def softR (s v : Fin 256 → EReal) : EReal := Ideal.div (∑ j, v j * weight s j) (∑ j', weight s j')

/-- The greatest of finitely many reals, from `⊥`, is a real when there is one. -/
theorem isReal_top (s : Fin 256 → EReal) (h : ∀ j, IsReal (s j)) : IsReal (top s) := by
  have key : ∀ t : Finset (Fin 256), t.fold max ⊥ s = ⊥ ∨ IsReal (t.fold max ⊥ s) := by
    intro t
    classical
    induction t using Finset.induction_on with
    | empty => exact .inl rfl
    | insert a t ha ih =>
      rw [Finset.fold_insert ha]
      rcases max_choice (s a) (t.fold max ⊥ s) with h1 | h1
      · rw [h1]; exact .inr (h a)
      · rw [h1]; exact ih
  rcases key Finset.univ with h1 | h1
  · obtain ⟨r, hr⟩ := h 0
    have h2 : s 0 ≤ top s := by
      unfold top
      rw [Finset.le_fold_max]
      exact .inr ⟨0, Finset.mem_univ _, le_refl _⟩
    unfold top at h2
    rw [h1, hr] at h2
    exact absurd h2 (not_le.mpr (EReal.bot_lt_coe r))
  · exact h1

/-- A weight is a positive real. -/
theorem weight_pos (s : Fin 256 → EReal) (h : ∀ j, IsReal (s j)) (j : Fin 256) : ∃ r : ℝ, 0 < r ∧ weight s j = (r : EReal) := by
  obtain ⟨a, ha⟩ := h j
  obtain ⟨b, hb⟩ := isReal_top s h
  refine ⟨Real.exp (a - b), Real.exp_pos _, ?_⟩
  unfold weight
  rw [ha, hb, ← EReal.coe_sub]
  rfl

/-- So is their sum. -/
theorem sum_weight_pos (s : Fin 256 → EReal) (h : ∀ j, IsReal (s j)) : ∃ r : ℝ, 0 < r ∧ ∑ j, weight s j = (r : EReal) := by
  choose f hf0 hf using weight_pos s h
  refine ⟨∑ j, f j, Finset.sum_pos (fun j _ => hf0 j) ⟨0, Finset.mem_univ _⟩, ?_⟩
  have : ∀ t : Finset (Fin 256), ∑ j ∈ t, weight s j = ((∑ j ∈ t, f j : ℝ) : EReal) := by
    intro t
    classical
    induction t using Finset.induction_on with
    | empty => simp
    | insert a t ha ih => rw [Finset.sum_insert ha, Finset.sum_insert ha, ih, hf, EReal.coe_add]
  exact this _

/-- A factor that is a nonnegative real goes into a sum of any extended reals. -/
theorem sum_mul_real {ι : Type} (t : Finset ι) (f : ι → EReal) (r : ℝ) (hr : 0 ≤ r) :
    (∑ i ∈ t, f i) * (r : EReal) = ∑ i ∈ t, f i * (r : EReal) := by
  classical
  induction t using Finset.induction_on with
  | empty => simp
  | insert a t ha ih =>
    rw [Finset.sum_insert ha, Finset.sum_insert ha, ← ih]
    exact EReal.right_distrib_of_nonneg_of_ne_top (EReal.coe_nonneg.mpr hr) (EReal.coe_ne_top r) _ _

/-- Where every score of the row is a real, the two orders agree, whatever the values are. -/
theorem soft_eq (s v : Fin 256 → EReal) (h : ∀ j, IsReal (s j)) : soft s v = softR s v := by
  obtain ⟨l, hl, hL⟩ := sum_weight_pos s h
  have hl0 : (l : EReal) ≠ 0 := by exact_mod_cast hl.ne'
  unfold soft softR
  rw [hL]
  unfold Ideal.div
  rw [if_neg hl0, ← EReal.coe_inv, sum_mul_real _ _ _ (inv_nonneg.mpr hl.le)]
  refine Finset.sum_congr rfl fun j _ => ?_
  rw [if_neg hl0, mul_right_comm, mul_comm (weight s j)]

end Cert.Attn

end
-- ==== Proof.HeadsValue.lean ====
/- The kernel's own product at an index, over the extended reals. -/
module

public import proofs.«01_k».proof.Proof.Heads
public import proofs.«01_k».proof.Proof.Softmax
public import Idealize.ShloMosaic.Lib.Pointwise

@[expose] public section

set_option maxRecDepth 16384

noncomputable section

namespace Cert.KernelIdeal.Body

open Cert.KernelIdeal Cert.KernelIdeal.Gen Cert.Butterfly Cert.Attn
open Idealize.ShloMosaic Idealize.ShloMosaic.TcCoe

/-- One head at an index. -/
theorem headOf_apply (q : FVec Ideal S128x128 .f32) (k v : FVec Ideal S256x128 .f32) (a b : Fin 128) :
    headOf q k v (ix2 a b) = soft (fun j => (∑ d : Fin 128, q (ix2 a d) * k (ix2 j d)) * Ideal.ofBits .f32 0x3DB504F3#32) (fun j => v (ix2 j b)) := by
  unfold soft weight top
  pointwise [headOf]
  rw [ofBits_bot]

/-- An activation times a device's columns of a weight. -/
def proj (x : FVec Ideal S1x256x1024 .f32) (w : FVec Ideal S1024x1024 .f32) (i : Fin 256) (C : Fin 1024) : EReal :=
  ∑ k : Fin 1024, x (ix3 0 i k) * w (ix2 k C)

variable (x : FVec Ideal S1x256x1024 .f32) (wq wo wk wv : FVec Ideal S1024x1024 .f32)

/-- The keys at an index, -/
theorem keys_apply (i : Fin 256) (C : Fin 1024) : keys (F := Ideal) x wk (ix2 i C) = proj x wk i C := by
  unfold proj
  pointwise [keys, k0_pay3, k0_pay2]

/-- the values, -/
theorem vals_apply (i : Fin 256) (C : Fin 1024) : vals (F := Ideal) x wv (ix2 i C) = proj x wv i C := by
  unfold proj
  pointwise [vals, k0_pay4, k0_pay2]

/-- and the queries. -/
theorem qrys_apply (i : Fin 256) (C : Fin 1024) : qrys (F := Ideal) x wq (ix2 i C) = proj x wq i C := by
  unfold proj
  pointwise [qrys, k0_pay5, k0_pay2]

/-- A column of the wide array: entry `d` of head `h`. -/
def col (h : Fin 8) (d : Fin 128) : Fin 1024 := ⟨128 * h.val + d.val, by omega⟩

/-- A row of the wide array: row `a` of half `r`. -/
def row (r : Fin 2) (a : Fin 128) : Fin 256 := ⟨128 * r.val + a.val, by omega⟩

variable (k v q : FVec Ideal S256x1024 .f32)

/-- The score of query row `i` against key row `j` in head `h`. -/
def score (i : Fin 256) (h : Fin 8) (j : Fin 256) : EReal :=
  (∑ d : Fin 128, q (ix2 i (col h d)) * k (ix2 j (col h d))) * Ideal.ofBits .f32 0x3DB504F3#32

/-- A cut of the queries at an index, -/
theorem cut_q (r : Fin 2) (h : Fin 8) (a d : Fin 128) :
    extractStridedSlice S128x128 ![128 * r.val, 128 * h.val] q (slices_q r h) (ix2 a d) = q (ix2 (row r a) (col h d)) := by
  pointwise
  rfl

/-- and a cut of the keys or values. -/
theorem cut_k (h : Fin 8) (j : Fin 256) (d : Fin 128) :
    extractStridedSlice S256x128 ![0, 128 * h.val] k (slices_k h) (ix2 j d) = k (ix2 j (col h d)) := by
  pointwise
  rfl

/-- A head at an index: one row of attention. -/
theorem headAt_apply (r : Fin 2) (h : Fin 8) (a b : Fin 128) :
    headAt k v q r h (ix2 a b) = soft (score k q (row r a) h) (fun j => v (ix2 j (col h b))) := by
  unfold headAt
  rw [headOf_apply]
  simp only [cut_q, cut_k]
  rfl

set_option maxHeartbeats 2000000 in
/-- The wide array at a column of head `h` is that head. -/
theorem wide_apply (r : Fin 2) (h : Fin 8) (a b : Fin 128) : wide k v q r (ix2 a (col h b)) = headAt k v q r h (ix2 a b) := by
  unfold wide
  fin_cases h
  all_goals pointwise [col]
  all_goals
    repeat rw [dif_neg (by omega)]
    try rw [dif_pos (by omega)]
    exact congrArg (fun e => headAt k v q r _ (ix2 a e)) (Fin.ext (by dsimp only; omega))

/-- The product with `Wo` at an index. -/
theorem prod_apply (r : Fin 2) (a : Fin 128) (n : Fin 1024) :
    prod (F := Ideal) k v q wo r (ix2 a n) = ∑ C : Fin 1024, wide k v q r (ix2 a C) * wo (ix2 C n) := by
  pointwise [prod]

end Cert.KernelIdeal.Body

end
-- ==== Proof.Total.lean ====
/- The finished sum over the extended reals: every element of it is the sum of the eight devices' own products there. -/
module

public import proofs.«01_k».proof.Proof.Run
public import proofs.«01_k».proof.Proof.HeadsValue

@[expose] public section

set_option maxRecDepth 16384

noncomputable section

namespace Cert.KernelIdeal.Body

open Cert.KernelIdeal Cert.KernelIdeal.Gen Cert.Butterfly Cert.Attn
open Idealize.ShloMosaic Idealize.ShloMosaic.TcCoe
open scoped BigOperators

/-! ## The order of the additions -/

/-- The devices in the order in which their terms stand in device `d`'s sum after three stages on rail `r`. -/
def order (r : Fin 3) (d : Fin 8) : Fin 8 → Fin 8 :=
  let p s := peer (dir r s)
  ![d, p 0 d, p 1 d, p 0 (p 1 d), p 2 d, p 0 (p 2 d), p 1 (p 2 d), p 0 (p 1 (p 2 d))]

/-- Every device stands there once. -/
theorem order_inj : ∀ (r : Fin 3) (d a b : Fin 8), order r d a = order r d b → a = b := by decide +kernel

/-- So a sum over the order is a sum over the devices. -/
theorem order_bij (r : Fin 3) (d : Fin 8) : Function.Bijective (order r d) :=
  Finite.injective_iff_bijective.mp fun a b => order_inj r d a b

/-- Three stages of pairwise additions add up all eight devices. -/
theorem part_three (P : Dev nD → Cont Ideal) (d : Fin 8) (i : SB.Idx) : part P 3 d i = (∑ c : Fin 8, (P c i : EReal)) := by
  rw [← (order_bij (rail (i 1).val) d).sum_comp (fun c => (P c i : EReal)), Fin.sum_univ_eight]
  simp only [part]
  show (((P d i : EReal) + P _ i) + (P _ i + P _ i)) + ((P _ i + P _ i) + (P _ i + P _ i)) = _
  simp only [← add_assoc]
  rfl

/-- The finished sum at an index. -/
theorem fin_apply (P : Dev nD → Cont Ideal) (i : SB.Idx) : fin P i = (∑ c : Fin 8, (P c i : EReal)) := part_three P _ i

/-! ## A device's own product -/

variable (x : FVec Ideal S1x256x1024 .f32) (wq wo wk wv : FVec Ideal S1024x1024 .f32)

/-- A device's scores, from its blocks of the weights. -/
def devScore (i : Fin 256) (h : Fin 8) (j : Fin 256) : EReal :=
  (∑ d : Fin 128, proj x wq i (col h d) * proj x wk j (col h d)) * Ideal.ofBits .f32 0x3DB504F3#32

/-- The scores are those of the device's blocks. -/
theorem score_eq (i : Fin 256) (h : Fin 8) : score (keys (F := Ideal) x wk) (qrys (F := Ideal) x wq) i h = devScore x wq wk i h := by
  funext j
  unfold score devScore
  simp only [keys_apply, qrys_apply]

/-- The head a column belongs to, and its place there. -/
def headOfCol (C : Fin 1024) : Fin 8 := ⟨C.val / 128, by omega⟩
def inHead (C : Fin 1024) : Fin 128 := ⟨C.val % 128, by omega⟩
/-- A column is the column of its head at its place there. -/
theorem col_of (C : Fin 1024) : col (headOfCol C) (inHead C) = C := Fin.ext (by simp only [col, headOfCol, inHead]; omega)

/-- The device's product of its attention and its rows of `Wo`, before any exchange. -/
def devOut (i : Fin 256) (n : Fin 1024) : EReal :=
  ∑ C : Fin 1024, soft (devScore x wq wk i (headOfCol C)) (fun j => proj x wv j C) * wo (ix2 C n)

/-- 128 rows of the product at an index, -/
theorem prod_devOut (r : Fin 2) (a : Fin 128) (n : Fin 1024) :
    prod (F := Ideal) (keys (F := Ideal) x wk) (vals (F := Ideal) x wv) (qrys (F := Ideal) x wq) wo r (ix2 a n) = devOut x wq wo wk wv (row r a) n := by
  rw [prod_apply]
  refine Finset.sum_congr rfl fun C _ => ?_
  have e := wide_apply (keys (F := Ideal) x wk) (vals (F := Ideal) x wv) (qrys (F := Ideal) x wq) r (headOfCol C) a (inHead C)
  rw [col_of] at e
  rw [e, headAt_apply, score_eq, col_of]
  simp only [vals_apply]

/-- and the device's whole product. -/
theorem ownOf_apply (i : Fin 256) (n : Fin 1024) : ownOf (F := Ideal) x wq wo wk wv (ix2 i n) = devOut x wq wo wk wv i n := by
  have key (y : S128x1024.Idx) : y = ix2 (y 0) (y 1) := by
    funext b; refine Fin.ext ?_; revert b
    refine fun (b : Fin 2) => ?_
    fin_cases b <;> rfl
  unfold ownOf
  split
  · rename_i h
    rw [loOf_eq]
    refine (congrArg _ (key _)).trans ((prod_devOut x wq wo wk wv 0 ⟨i.val, h⟩ n).trans ?_)
    exact congrArg (fun e => devOut x wq wo wk wv e n) (Fin.ext (by show 128 * 0 + i.val = i.val; omega))
  · rename_i h
    have h' : ¬ i.val < 128 := h
    rw [hiOf_eq]
    refine (congrArg _ (key _)).trans ((prod_devOut x wq wo wk wv 1 ⟨i.val - 128, by omega⟩ n).trans ?_)
    exact congrArg (fun e => devOut x wq wo wk wv e n) (Fin.ext (by show 128 * 1 + (i.val - 128) = i.val; omega))

/-- What every device stores, at an index. -/
theorem pay_apply (f : Cont Ideal) (i : Fin 256) (n : Fin 1024) : k0_pay1 (F := Ideal) f (ix3 0 i n) = f (ix2 i n) := by
  pointwise [k0_pay1]

end Cert.KernelIdeal.Body

end
-- ==== Proof.Final.lean ====
/- The kernel's result array over the extended reals, as a function of the eight devices' arguments. -/
module

public import proofs.«01_k».proof.Proof.Total
public import Idealize.ShloMosaic.Lib.Pipeline.ValueKit

@[expose] public section

set_option maxRecDepth 16384

noncomputable section

namespace Cert.KernelIdeal.Body

open Cert.KernelIdeal Cert.KernelIdeal.Gen Cert.Butterfly Cert.Attn
open Idealize.ShloMosaic Idealize.ShloMosaic.TcCoe
open Idealize.ShloMosaic.Pipeline (Dat Cfg Window)
open scoped BigOperators

section
variable {F : FTy → Type} [FloatOps F]
variable (m : (ℓ : Loc nD τ sig) → Buf (Elt F) ℓ) (ρ : Dev nD → PrngReg) (c : Dev nD)

/-- The staged block of `x` is the whole argument. -/
theorem inX_eq : inX m c = m ((c : Thread nD τ).loc main_arg0) := by
  funext j
  refine congrArg (m ((c : Thread nD τ).loc main_arg0)) (funext fun a => Fin.ext ?_)
  blk_simp
  have h : ∀ a, win0_0.index t0_0 a = 0 := by decide
  rw [h a, Nat.zero_mul, Nat.zero_add]

/-- The staged block of `Wq` is the whole argument. -/
theorem inQ_eq : inQ m c = m ((c : Thread nD τ).loc main_arg1) := by
  funext j
  refine congrArg (m ((c : Thread nD τ).loc main_arg1)) (funext fun a => Fin.ext ?_)
  blk_simp
  have h : ∀ a, win0_1.index t0_0 a = 0 := by decide
  rw [h a, Nat.zero_mul, Nat.zero_add]

/-- The staged block of `Wo` is the whole argument. -/
theorem inO_eq : inO m c = m ((c : Thread nD τ).loc main_arg2) := by
  funext j
  refine congrArg (m ((c : Thread nD τ).loc main_arg2)) (funext fun a => Fin.ext ?_)
  blk_simp
  have h : ∀ a, win0_2.index t0_0 a = 0 := by decide
  rw [h a, Nat.zero_mul, Nat.zero_add]

/-- The staged block of `Wk` is the whole argument. -/
theorem inK_eq : inK m c = m ((c : Thread nD τ).loc main_arg3) := by
  funext j
  refine congrArg (m ((c : Thread nD τ).loc main_arg3)) (funext fun a => Fin.ext ?_)
  blk_simp
  have h : ∀ a, win0_3.index t0_0 a = 0 := by decide
  rw [h a, Nat.zero_mul, Nat.zero_add]

/-- The staged block of `Wv` is the whole argument. -/
theorem inV_eq : inV m c = m ((c : Thread nD τ).loc main_arg4) := by
  funext j
  refine congrArg (m ((c : Thread nD τ).loc main_arg4)) (funext fun a => Fin.ext ?_)
  blk_simp
  have h : ∀ a, win0_4.index t0_0 a = 0 := by decide
  rw [h a, Nat.zero_mul, Nat.zero_add]

/-- The result array after the run is what every device stores. -/
theorem finalA_out : finalA m ρ c (5 : Fin 6) = outAt m := by
  unfold finalA
  refine (dats m ρ 0 c).arrAt_eq_of_after_last 5 t0_0 (by decide +kernel) _ fun j => ?_
  blk_simp
  rfl

end

/-- The stored array at an index: the sum of the devices' own products. -/
theorem outAt_apply (m : (ℓ : Loc nD τ sig) → Buf (Elt Ideal) ℓ) (i : Fin 256) (n : Fin 1024) :
    outAt (F := Ideal) m (ix3 0 i n) = (∑ c : Fin 8, devOut (m ((Dev.tc c : Thread nD τ).loc main_arg0)) (m ((Dev.tc c : Thread nD τ).loc main_arg1))
      (m ((Dev.tc c : Thread nD τ).loc main_arg2)) (m ((Dev.tc c : Thread nD τ).loc main_arg3)) (m ((Dev.tc c : Thread nD τ).loc main_arg4)) i n : EReal) := by
  refine (pay_apply _ i n).trans ((fin_apply _ _).trans (Finset.sum_congr rfl fun c _ => ?_))
  unfold own
  rw [inX_eq, inQ_eq, inO_eq, inK_eq, inV_eq]
  exact ownOf_apply _ _ _ _ _ i n

end Cert.KernelIdeal.Body

end
-- ==== Proof.RefValue.lean ====
/- The reference's result at an index, over the extended reals. -/
module

public import proofs.«01_k».proof.Proof.Gen.ReferenceIdeal.Run
public import proofs.«01_k».proof.Proof.Softmax
public import Idealize.ShloMosaic.Lib.Pointwise

@[expose] public section

set_option maxRecDepth 16384

noncomputable section

namespace Cert.ReferenceIdeal.Value

open Cert.ReferenceIdeal Cert.ReferenceIdeal.Gen Cert.Attn
open Idealize.ShloMosaic Idealize.ShloMosaic.TcCoe

variable (x : FVec Ideal S1x256x1024 .f32) (w : FVec Ideal S1024x8192 .f32)

/-- An activation times a weight, its columns cut into heads. -/
def heads : FVec Ideal S1x256x64x128 .f32 :=
  shapeCast _ (Host.dotGeneral dot_S1x256x1024_S1024x8192_S1x256x8192_2_0_01_1_n_n none x w) shapeCasts_S1x256x8192_S1x256x64x128

variable (q k v : FVec Ideal S1x256x64x128 .f32)

/-- The scores of every head. -/
def scores : FVec Ideal S1x64x256x256 .f32 :=
  mulf (Host.dotGeneral dot_S1x256x64x128_S1x256x64x128_S1x64x256x256_3_3_1_1_02_02 none q k) (broadcastInDim S1x64x256x256 ![] bcast_S_S1x64x256x256 (constant S_ .f32 0x3DB504F3#32))

variable (s : FVec Ideal S1x64x256x256 .f32)

/-- The greatest score of every row. -/
def tops : FVec Ideal S1x64x256x1 .f32 :=
  maximumf (broadcastInDim S1x64x256x1 ![] bcast_S_S1x64x256x1 (constant S_ .f32 0xFF800000#32)) (broadcastInDim S1x64x256x1 ![0, 1, 2] bcast_S1x64x256_S1x64x256x1_0_1_2
    (Host.reduce FloatOps.maximumf s (constant S_ .f32 0xFF800000#32) reducesTo_S1x64x256x256_S1x64x256_d3 h_S_))

/-- What the weights gathered before this block of keys are multiplied by. -/
def fade : FVec Ideal S1x64x256x1 .f32 := Host.exp (subf (broadcastInDim S1x64x256x1 ![] bcast_S_S1x64x256x1 (constant S_ .f32 0xFF800000#32)) (tops s))

/-- The weights. -/
def weights : FVec Ideal S1x64x256x256 .f32 := Host.exp (subf s (broadcastInDim S1x64x256x256 ![0, 1, 2, 3] bcast_S1x64x256x1_S1x64x256x256_0_1_2_3 (tops s)))

/-- Their sum along each row. -/
def totals : FVec Ideal S1x64x256x1 .f32 :=
  addf (mulf (broadcastInDim S1x64x256x1 ![] bcast_S_S1x64x256x1 (constant S_ .f32 0x00000000#32)) (fade s)) (broadcastInDim S1x64x256x1 ![0, 1, 2] bcast_S1x64x256_S1x64x256x1_0_1_2
    (Host.reduceAdd (weights s) (constant S_ .f32 0x00000000#32) reducesTo_S1x64x256x256_S1x64x256_d3 h_S_))

/-- The weighed values. -/
def weighed : FVec Ideal S1x256x64x128 .f32 :=
  addf (mulf (broadcastInDim S1x256x64x128 ![] bcast_S_S1x256x64x128 (constant S_ .f32 0x00000000#32)) (broadcastInDim S1x256x64x128 ![0, 1, 2, 3] bcast_S1x256x64x1_S1x256x64x128_0_1_2_3
    (transpose S1x256x64x1 [0, 2, 1, 3] (fade s) transposes_S1x64x256x1_S1x256x64x1_0_2_1_3)))
    (transpose S1x256x64x128 [0, 3, 1, 2] (Host.dotGeneral dot_S1x256x64x128_S1x64x256x256_S1x64x128x256_1_3_3_2_02_01 none v (weights s)) transposes_S1x64x128x256_S1x256x64x128_0_3_1_2)

/-- The heads' outputs. -/
def attended : FVec Ideal S1x256x64x128 .f32 :=
  Host.divf (weighed v s) (broadcastInDim S1x256x64x128 ![0, 1, 2, 3] bcast_S1x256x64x1_S1x256x64x128_0_1_2_3
    (transpose S1x256x64x1 [0, 2, 1, 3] (totals s) transposes_S1x64x256x1_S1x256x64x1_0_2_1_3))

/-- The reference's result as a function of its five arguments. -/
def refOut (x : FVec Ideal S1x256x1024 .f32) (wq : FVec Ideal S1024x8192 .f32) (wo : FVec Ideal S8192x1024 .f32) (wk wv : FVec Ideal S1024x8192 .f32) : FVec Ideal S1x256x1024 .f32 :=
  Host.dotGeneral dot_S1x256x8192_S8192x1024_S1x256x1024_2_0_01_1_n_n none
    (shapeCast _ (attended (heads x wv) (scores (heads x wq) (heads x wk))) shapeCasts_S1x256x64x128_S1x256x8192) wo

/-- The run's result is that function of the arguments. -/
theorem res_eq (m : (ℓ : Loc nD τ sig) → Buf (Elt Ideal) ℓ) (c : Dev nD) :
    res_main_v34 m c = refOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-- The activations of a head at an index. -/
theorem heads_apply (i : Fin 256) (h : Fin 64) (d : Fin 128) :
    heads x w (ix4 0 i h d) = ∑ k : Fin 1024, x (ix3 0 i k) * w (ix2 k ⟨128 * h.val + d.val, by omega⟩) := by
  pointwise [heads]
  refine Finset.sum_congr rfl fun k _ => ?_
  exact congrArg (fun e => x (ix3 0 i k) * w (ix2 k e)) (Fin.ext (show h.val * 128 + d.val = 128 * h.val + d.val by omega))

/-- A score. -/
theorem scores_apply (h : Fin 64) (i j : Fin 256) :
    scores q k (ix4 0 h i j) = (∑ d : Fin 128, q (ix4 0 i h d) * k (ix4 0 j h d)) * Ideal.ofBits .f32 0x3DB504F3#32 := by
  pointwise [scores]

/-- A row's greatest score. -/
theorem tops_apply (h : Fin 64) (i : Fin 256) : tops s (ix4 0 h i 0) = top (fun j => s (ix4 0 h i j)) := by
  unfold top tops
  have e (y : FVec Ideal S1x64x256 .f32) : maximumf (broadcastInDim S1x64x256x1 ![] bcast_S_S1x64x256x1 (constant (F := Ideal) S_ .f32 0xFF800000#32))
      (broadcastInDim S1x64x256x1 ![0, 1, 2] bcast_S1x64x256_S1x64x256x1_0_1_2 y) (ix4 0 h i 0) = max (Ideal.ofBits .f32 0xFF800000#32) (y (ix3 0 h i)) := by
    pointwise
  rw [e, Host.reduce_eq_fold, Shape.ReducesTo.fold_fiber_r4_a3]
  have c0 : constant (F := Ideal) S_ .f32 0xFF800000#32 (Shape.Idx.first h_S_) = ⊥ := ofBits_bot
  rw [c0, ofBits_bot, max_eq_right bot_le]
  rfl

/-- A weight. -/
theorem weights_apply (h : Fin 64) (i j : Fin 256) : weights s (ix4 0 h i j) = weight (fun j => s (ix4 0 h i j)) j := by
  unfold weight
  rw [← tops_apply]
  pointwise [weights]

/-- A row's sum of weights. -/
theorem totals_apply (h : Fin 64) (i : Fin 256) : totals s (ix4 0 h i 0) = ∑ j, weight (fun j => s (ix4 0 h i j)) j := by
  simp only [← weights_apply]
  pointwise [totals]
  rw [zero_mul, zero_add]

/-- A weighed value. -/
theorem weighed_apply (h : Fin 64) (i : Fin 256) (d : Fin 128) :
    weighed v s (ix4 0 i h d) = ∑ j, v (ix4 0 j h d) * weight (fun j => s (ix4 0 h i j)) j := by
  simp only [← weights_apply]
  pointwise [weighed]
  rw [zero_mul, zero_add]

/-- A head's output: one row of attention, divided last. -/
theorem attended_apply (h : Fin 64) (i : Fin 256) (d : Fin 128) :
    attended v s (ix4 0 i h d) = softR (fun j => s (ix4 0 h i j)) (fun j => v (ix4 0 j h d)) := by
  unfold softR
  rw [← totals_apply, ← weighed_apply]
  pointwise [attended]

/-- The result at an index. -/
theorem refOut_apply (x : FVec Ideal S1x256x1024 .f32) (wq : FVec Ideal S1024x8192 .f32) (wo : FVec Ideal S8192x1024 .f32) (wk wv : FVec Ideal S1024x8192 .f32)
    (i : Fin 256) (n : Fin 1024) :
    refOut x wq wo wk wv (ix3 0 i n) = ∑ C : Fin 8192, attended (heads x wv) (scores (heads x wq) (heads x wk)) (ix4 0 i ⟨C.val / 128, by omega⟩ ⟨C.val % 128, by omega⟩) * wo (ix2 C n) := by
  pointwise [refOut]

end Cert.ReferenceIdeal.Value

end
-- ==== Proof.Agree.lean ====
/- The reference's result is the sum of the devices' own products, when the activations and the query and key weights are
   real numbers. -/
module

public import proofs.«01_k».proof.Proof.Total
public import proofs.«01_k».proof.Proof.RefValue
public import Idealize.ShloMosaic.Lib.Layout

@[expose] public section

set_option maxRecDepth 16384

noncomputable section

namespace Cert.Agree

open Cert.Attn Cert.KernelIdeal.Body
open Cert.ReferenceIdeal (S1x256x1024 S1024x8192 S8192x1024 S1x256x64x128)
open Cert.ReferenceIdeal.Value
open Cert.KernelIdeal (S1024x1024)
open Idealize.ShloMosaic
open scoped BigOperators

/-! ## Blocks -/

/-- Device `c`'s columns of a weight, -/
def colsOf (c : Fin 8) (w : FVec Ideal S1024x8192 .f32) : FVec Ideal S1024x1024 .f32 := Layout.block ⟨2, ![1024, 1024]⟩ ⟨2, ![1024, 8192]⟩ 1 8 c w
/-- and its rows of `Wo`. -/
def rowsOf (c : Fin 8) (w : FVec Ideal S8192x1024 .f32) : FVec Ideal S1024x1024 .f32 := Layout.block ⟨2, ![1024, 1024]⟩ ⟨2, ![8192, 1024]⟩ 0 8 c w

/-- Column `C` of device `c` in the whole array. -/
def glob (c : Fin 8) (C : Fin 1024) : Fin 8192 := ⟨1024 * c.val + C.val, by omega⟩

/-- A block of columns at an index, -/
theorem colsOf_apply (c : Fin 8) (w : FVec Ideal S1024x8192 .f32) (k C : Fin 1024) : colsOf c w (ix2 k C) = w (ix2 k (glob c C)) := by
  refine congrArg w (funext fun (b : Fin 2) => Fin.ext ?_)
  fin_cases b
  · rfl
  · show c.val * 1024 + C.val = 1024 * c.val + C.val; omega

/-- and a block of rows. -/
theorem rowsOf_apply (c : Fin 8) (w : FVec Ideal S8192x1024 .f32) (C n : Fin 1024) : rowsOf c w (ix2 C n) = w (ix2 (glob c C) n) := by
  refine congrArg w (funext fun (b : Fin 2) => Fin.ext ?_)
  fin_cases b
  · show c.val * 1024 + C.val = 1024 * c.val + C.val; omega
  · rfl

/-- A sum over all columns is the sum over the devices of the sums over their own. -/
theorem sum_glob (f : Fin 8192 → EReal) : ∑ C, f C = ∑ c : Fin 8, ∑ C : Fin 1024, f (glob c C) := by
  rw [← Equiv.sum_comp (finProdFinEquiv : Fin 8 × Fin 1024 ≃ Fin 8192), Fintype.sum_prod_type]
  refine Finset.sum_congr rfl fun c _ => Finset.sum_congr rfl fun C _ => congrArg f (Fin.ext ?_)
  show C.val + 1024 * c.val = 1024 * c.val + C.val
  omega

/-! ## The two scores -/

variable (x : FVec Ideal S1x256x1024 .f32) (w wq wk wv : FVec Ideal S1024x8192 .f32) (wo : FVec Ideal S8192x1024 .f32)

/-- A head's activations are its device's. -/
theorem heads_dev (c : Fin 8) (i : Fin 256) (H : Fin 64) (h : Fin 8) (hH : H.val = 8 * c.val + h.val) (d : Fin 128) :
    heads x w (ix4 0 i H d) = proj x (colsOf c w) i (col h d) := by
  rw [heads_apply]
  refine Finset.sum_congr rfl fun k _ => ?_
  rw [colsOf_apply]
  exact congrArg (fun e => x (ix3 0 i k) * w (ix2 k e)) (Fin.ext (show 128 * H.val + d.val = 1024 * c.val + (128 * h.val + d.val) by omega))

/-- A head's scores are its device's. -/
theorem scores_dev (c : Fin 8) (i j : Fin 256) (H : Fin 64) (h : Fin 8) (hH : H.val = 8 * c.val + h.val) :
    scores (heads x wq) (heads x wk) (ix4 0 H i j) = devScore x (colsOf c wq) (colsOf c wk) i h j := by
  rw [scores_apply]
  unfold devScore
  simp only [heads_dev x _ c _ H h hH]

/-! ## Real numbers -/

/-- The scale is a real number. -/
theorem isReal_scale : IsReal (Ideal.ofBits .f32 0x3DB504F3#32) := by
  have h1 : (0x3DB504F3#32 : BitVec 32).extractLsb' 31 1 = 0#1 := by decide
  have h2 : ((0x3DB504F3#32 : BitVec 32).extractLsb' 23 8).toNat = 123 := by decide
  have h3 : ((0x3DB504F3#32 : BitVec 32).extractLsb' 0 23).toNat = 3474675 := by decide
  simp [Ideal.ofBits, Ideal.ieee, h1, h2, h3]
  exact isReal_coe _

/-- The word of plus infinity. -/
theorem ofBits_top : Ideal.ofBits .f32 0x7F800000#32 = ⊤ := by
  have h1 : (0x7F800000#32 : BitVec 32).extractLsb' 31 1 = 0#1 := by decide
  have h2 : ((0x7F800000#32 : BitVec 32).extractLsb' 23 8).toNat = 255 := by decide
  have h3 : ((0x7F800000#32 : BitVec 32).extractLsb' 0 23).toNat = 0 := by decide
  simp [Ideal.ofBits, Ideal.ieee, h1, h2, h3]

/-- Products of real activations and weights are real, -/
theorem isReal_proj (hx : ∀ i k, IsReal (x (ix3 0 i k))) (u : FVec Ideal S1024x1024 .f32) (hu : ∀ k C, IsReal (u (ix2 k C)))
    (i : Fin 256) (C : Fin 1024) : IsReal (proj x u i C) :=
  isReal_sum _ _ fun k => (hx i k).mul (hu k C)

/-- and so are the scores. -/
theorem isReal_devScore (hx : ∀ i k, IsReal (x (ix3 0 i k))) (uq uk : FVec Ideal S1024x1024 .f32) (hq : ∀ k C, IsReal (uq (ix2 k C)))
    (hk : ∀ k C, IsReal (uk (ix2 k C))) (i : Fin 256) (h : Fin 8) (j : Fin 256) : IsReal (devScore x uq uk i h j) :=
  (isReal_sum _ _ fun d => (isReal_proj x hx uq hq i _).mul (isReal_proj x hx uk hk j _)).mul isReal_scale

/-- The reference's result is the sum over the devices. -/
theorem refOut_eq (hx : ∀ i k, IsReal (x (ix3 0 i k))) (hq : ∀ c k C, IsReal (colsOf c wq (ix2 k C))) (hk : ∀ c k C, IsReal (colsOf c wk (ix2 k C)))
    (i : Fin 256) (n : Fin 1024) :
    refOut x wq wo wk wv (ix3 0 i n) = ∑ c : Fin 8, devOut x (colsOf c wq) (rowsOf c wo) (colsOf c wk) (colsOf c wv) i n := by
  rw [refOut_apply, sum_glob]
  refine Finset.sum_congr rfl fun c _ => Finset.sum_congr rfl fun C _ => ?_
  have hH : (⟨(glob c C).val / 128, by omega⟩ : Fin 64).val = 8 * c.val + (headOfCol C).val := by
    show (1024 * c.val + C.val) / 128 = 8 * c.val + C.val / 128; omega
  have hd : (⟨(glob c C).val % 128, by omega⟩ : Fin 128) = inHead C := Fin.ext (by
    show (1024 * c.val + C.val) % 128 = C.val % 128; omega)
  rw [attended_apply, rowsOf_apply, hd]
  simp only [scores_dev x wq wk c _ _ _ _ hH, heads_dev x wv c _ _ _ hH, col_of]
  rw [soft_eq _ _ fun j => isReal_devScore x hx _ _ (hq c) (hk c) i _ j]

end Cert.Agree

end
-- ==== Proof.Finite.lean ====
/- What the precondition says of an element: it is a real number. -/
module

public import proofs.«01_k».proof.Pre_finite_KernelIdeal
public import proofs.«01_k».proof.Proof.Agree

@[expose] public section

set_option maxRecDepth 16384

noncomputable section

namespace Cert.Finite

open Cert.Attn Cert.Agree
open Cert.Pre_finite_KernelIdeal
open Idealize.ShloMosaic

/-- An element whose magnitude is below plus infinity is a real number. -/
theorem isReal_of_lt {e : Ideal .f32} (h : BitVec.ofBool (decide (FloatOps.absf e < Ideal.ofBits .f32 0x7F800000#32)) = 1#1) : IsReal e := by
  rw [ofBits_top] at h
  have h' : max (e : EReal) (-e) < ⊤ := by
    by_contra hn
    have : decide (FloatOps.absf e < ⊤) = false := decide_eq_false hn
    rw [this] at h
    exact absurd h (by decide)
  have h1 : (e : EReal) ≠ ⊤ := ne_of_lt (lt_of_le_of_lt (le_max_left _ _) h')
  have h2 : (e : EReal) ≠ ⊥ := fun hb => by
    have : -(e : EReal) = ⊤ := by rw [hb]; rfl
    exact absurd (lt_of_le_of_lt (le_max_right (e : EReal) (-e)) h') (by rw [this]; exact lt_irrefl _)
  exact ⟨EReal.toReal e, (EReal.coe_toReal h1 h2).symm⟩

variable [Facts] (x : FVec Ideal S1x256x1024 .f32) (wq wo wk wv : FVec Ideal S1024x1024 .f32)

/-- The activations are real numbers, -/
theorem isReal_x (h : (fn (F := Ideal) x wq wo wk wv).1 = fun _ => 1#1) (i : Fin 256) (k : Fin 1024) : IsReal (x (ix3 0 i k)) := by
  have e := congrFun h (ix3 0 i k)
  revert e
  pointwise [fn]
  exact isReal_of_lt

/-- the query weights are, -/
theorem isReal_q (h : (fn (F := Ideal) x wq wo wk wv).2.1 = fun _ => 1#1) (k C : Fin 1024) : IsReal (wq (ix2 k C)) := by
  have e := congrFun h (ix2 k C)
  revert e
  pointwise [fn]
  exact isReal_of_lt

/-- and the key weights. -/
theorem isReal_k (h : (fn (F := Ideal) x wq wo wk wv).2.2 = fun _ => 1#1) (k C : Fin 1024) : IsReal (wk (ix2 k C)) := by
  have e := congrFun h (ix2 k C)
  revert e
  pointwise [fn]
  exact isReal_of_lt

end Cert.Finite

end
-- ==== Proof.Algebraic.lean ====
/- The value claim: over the extended reals every device's result is the reference's. -/
module

public import proofs.«01_k».proof.Defs
public import proofs.«01_k».proof.Proof.Frames
public import proofs.«01_k».proof.Proof.Final
public import proofs.«01_k».proof.Proof.Finite

@[expose] public section

set_option maxRecDepth 16384

noncomputable section

namespace Cert.Proof

open Cert.Attn Cert.Agree Cert.Finite
open Idealize.ShloMosaic Idealize.SL.Sem

/-- The predicate's side conditions, on a device's blocks -/
theorem pre_facts : Cert.Pre_finite_KernelIdeal.Facts := ⟨by decide, by decide⟩
/-- and on the whole arrays. -/
theorem pre_facts_ref : Cert.Pre_finite_ReferenceIdeal.Facts := ⟨by decide, by decide⟩

/-- The frame of the idealized kernel, of arguments that the predicate holds of. -/
theorem frame_kernelIdeal_pre [Cert.Pre_finite_KernelIdeal.Facts] : Cert.quiescent_KernelIdeal_pre_finite_KernelIdeal := fun m ρ _ =>
  frame_kernelIdeal m ρ trivial
/-- The same of the reference. -/
theorem frame_reference_pre [Cert.Pre_finite_ReferenceIdeal.Facts] : Cert.quiescent_ReferenceIdeal_pre_finite_ReferenceIdeal := fun m ρ _ =>
  frame_reference m ρ trivial

/-- An index of the result by its two coordinates. -/
theorem idx_eq (j : Cert.ReferenceIdeal.S1x256x1024.Idx) : j = ix3 0 (j 1) (j 2) := by
  refine funext fun (b : Fin 3) => Fin.ext ?_
  fin_cases b
  · have h : (j 0).val < 1 := (j 0).isLt
    show (j 0).val = 0
    omega
  · rfl
  · rfl

/-- Every device's result is the reference's. -/
theorem algebraic [Cert.Pre_finite_KernelIdeal.Facts] : Cert.algebraic_KernelIdeal_ReferenceIdeal_pre_finite_KernelIdeal := by
  intro m g m' g' hpre hargs
  have hv : Cert.KernelIdeal.Body.outAt (F := Ideal) m = Cert.ReferenceIdeal.Value.res_main_v34 (F := Ideal) m' 0 := by
    rw [Cert.ReferenceIdeal.Value.res_eq]
    refine funext fun j => ?_
    rw [idx_eq j]
    refine (Cert.KernelIdeal.Body.outAt_apply m _ _).trans ?_
    refine Eq.trans ?_ (refOut_eq _ _ _ _ _ (fun i k => ?_) (fun c k C => ?_) (fun c k C => ?_) (j 1) (j 2)).symm
    · refine Finset.sum_congr (M := EReal) rfl fun c _ => ?_
      rw [(hargs c).1, (hargs c).2.1, (hargs c).2.2.1, (hargs c).2.2.2.1, (hargs c).2.2.2.2]
      rfl
    · have h := isReal_x _ _ _ _ _ (hpre 0).1 i k
      rw [(hargs 0).1] at h
      exact h
    · have h := isReal_q _ _ _ _ _ (hpre c).2.1 k C
      rw [(hargs c).2.1] at h
      exact h
    · have h := isReal_k _ _ _ _ _ (hpre c).2.2 k C
      rw [(hargs c).2.2.2.1] at h
      exact h
  refine ⟨Cert.ReferenceIdeal.Value.res_main_v34 (F := Ideal) m' 0, ?_, ?_⟩
  · refine (θ_run Cert.KernelIdeal.defs _ _).mono (fun r h c => ?_) (Cert.KernelIdeal.Body.frame_run (F := Ideal) m g)
    exact ⟨((h.1 c).1.trans (Cert.KernelIdeal.Body.finalA_out m g c)).trans hv, (h.1 c).2⟩
  · exact (θ_run Cert.ReferenceIdeal.defs _ _).mono (fun r h => h 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.RunB
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  haveI := pre_facts
  haveI := pre_facts_ref
  ⟨Cert.Kernel.Gen.facts, Cert.KernelIdeal.Gen.facts, Cert.ReferenceIdeal.Gen.facts, pre_facts, pre_facts_ref,
    frame_kernel, frame_kernelIdeal, frame_kernelIdeal_pre, frame_reference, frame_reference_pre, trivial, algebraic⟩

end Cert.Proof

end
